-- ==== Defs.lean ====
def Pre_KernelIdeal [hPre_overlaps_itself : Cert.Pre_overlaps_itself.Facts] (m : (ℓ : Loc Cert.KernelIdeal.nD Cert.KernelIdeal.τ Cert.KernelIdeal.sig) → Buf (Elt Ideal) ℓ) : Prop :=
  ∀ c : Dev Cert.KernelIdeal.nD,
    (Cert.Pre_overlaps_itself.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_overlaps_itself [hPre_overlaps_itself : Cert.Pre_overlaps_itself.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_overlaps_itself.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_KernelIdeal [hKernelIdeal : Cert.KernelIdeal.Facts] [hPre_overlaps_itself : Cert.Pre_overlaps_itself.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_overlaps_itself [hReferenceIdeal : Cert.ReferenceIdeal.Facts] [hPre_overlaps_itself : Cert.Pre_overlaps_itself.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_overlaps_itself m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] [hPre_overlaps_itself : Cert.Pre_overlaps_itself.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts) (hPre_overlaps_itself : Cert.Pre_overlaps_itself.Facts),
    quiescent_KernelIdeal (hKernelIdeal := hKernelIdeal) (hPre_overlaps_itself := hPre_overlaps_itself)
    ∧ quiescent_ReferenceIdeal (hReferenceIdeal := hReferenceIdeal)
    ∧ quiescent_ReferenceIdeal_pre_overlaps_itself (hReferenceIdeal := hReferenceIdeal) (hPre_overlaps_itself := hPre_overlaps_itself)
    ∧ algebraic_KernelIdeal_ReferenceIdeal (hKernelIdeal := hKernelIdeal) (hReferenceIdeal := hReferenceIdeal) (hPre_overlaps_itself := hPre_overlaps_itself)
-- ==== Pre_overlaps_itself.lean ====
abbrev S1x20000x4 : Shape := ⟨3, ![1, 20000, 4]⟩
abbrev S1x1x20000 : Shape := ⟨3, ![1, 1, 20000]⟩
abbrev S1 : Shape := ⟨1, ![1]⟩
abbrev S20000x4 : Shape := ⟨2, ![20000, 4]⟩
abbrev S20000x1 : Shape := ⟨2, ![20000, 1]⟩
abbrev S20000 : Shape := ⟨1, ![20000]⟩
abbrev S_ : Shape := ⟨0, ![]⟩

class Facts : Prop where
  shapeCasts_S1x20000x4_S20000x4 : S1x20000x4.ShapeCasts S20000x4
  slices_S20000x4_S20000x1_0_2 : S20000x4.Slices ![0, 2] S20000x1
  shapeCasts_S20000x1_S20000 : S20000x1.ShapeCasts S20000
  slices_S20000x4_S20000x1_0_0 : S20000x4.Slices ![0, 0] S20000x1
  bcast_S_S20000 : S_.BroadcastsInDim S20000 (![] : Fin 0 → Fin S20000.rank)
  slices_S20000x4_S20000x1_0_3 : S20000x4.Slices ![0, 3] S20000x1
  slices_S20000x4_S20000x1_0_1 : S20000x4.Slices ![0, 1] S20000x1
  shapeCasts_S1x1x20000_S20000 : S1x1x20000.ShapeCasts S20000
  shapeCasts_S1_S_ : S1.ShapeCasts S_

variable [Facts]

def fn_part2 {F : FTy → Type} [FloatOps F] (main_arg2 : FVec F S1 .f32) (main_arg3 : FVec F S1 .f32) (main_v43 : FVec F S20000 .f32) (main_v44 : FVec F S20000 .f32) : IVec S20000 1 :=
  let main_v45 : FVec F S_ .f32 := shapeCast S_ main_arg3 shapeCasts_S1_S_
  let main_v46 : FVec F S20000 .f32 := broadcastInDim S20000 ![] bcast_S_S20000 main_v45
  let main_v47 : IVec S20000 1 := cmpf .ogt main_v44 main_v46
  let main_v48 : IVec S20000 1 := noti main_v47
  let main_v49 : FVec F S_ .f32 := shapeCast S_ main_arg2 shapeCasts_S1_S_
  let main_v50 : FVec F S20000 .f32 := broadcastInDim S20000 ![] bcast_S_S20000 main_v49
  let main_v51 : IVec S20000 1 := cmpf .ogt main_v43 main_v50
  let main_v52 : IVec S20000 1 := ori main_v48 main_v51
  main_v52

def fn_part1 {F : FTy → Type} [FloatOps F] (main_arg1 : FVec F S1x1x20000 .f32) (main_arg2 : FVec F S1 .f32) (main_arg3 : FVec F S1 .f32) (main_v0 : FVec F S20000x4 .f32) (main_v13 : FVec F S20000 .f32) (main_v18 : FVec F S20000 .f32) (main_v20 : FVec F S20000 .f32) (main_v22 : FVec F S20000 .f32) : IVec S20000 1 :=
  let main_v23 : FVec F S20000 .f32 := maximumf main_v20 main_v22
  let main_v24 : FVec F S20000 .f32 := subf main_v18 main_v23
  let main_cst_0 : FVec F S_ .f32 := constant S_ .f32 0x00000000#32
  let main_v25 : FVec F S20000 .f32 := broadcastInDim S20000 ![] bcast_S_S20000 main_cst_0
  let main_v26 : FVec F S20000 .f32 := maximumf main_v24 main_v25
  let main_v27 : FVec F S20000 .f32 := mulf main_v13 main_v26
  let main_v28 : FVec F S20000x1 .f32 := (extractStridedSlice S20000x1 ![0, 2] · slices_S20000x4_S20000x1_0_2) main_v0
  let main_v29 : FVec F S20000 .f32 := shapeCast S20000 main_v28 shapeCasts_S20000x1_S20000
  let main_v30 : FVec F S20000x1 .f32 := (extractStridedSlice S20000x1 ![0, 0] · slices_S20000x4_S20000x1_0_0) main_v0
  let main_v31 : FVec F S20000 .f32 := shapeCast S20000 main_v30 shapeCasts_S20000x1_S20000
  let main_v32 : FVec F S20000 .f32 := subf main_v29 main_v31
  let main_v33 : FVec F S20000x1 .f32 := (extractStridedSlice S20000x1 ![0, 3] · slices_S20000x4_S20000x1_0_3) main_v0
  let main_v34 : FVec F S20000 .f32 := shapeCast S20000 main_v33 shapeCasts_S20000x1_S20000
  let main_v35 : FVec F S20000x1 .f32 := (extractStridedSlice S20000x1 ![0, 1] · slices_S20000x4_S20000x1_0_1) main_v0
  let main_v36 : FVec F S20000 .f32 := shapeCast S20000 main_v35 shapeCasts_S20000x1_S20000
  let main_v37 : FVec F S20000 .f32 := subf main_v34 main_v36
  let main_v38 : FVec F S20000 .f32 := mulf main_v32 main_v37
  let main_v39 : FVec F S20000 .f32 := addf main_v38 main_v38
  let main_v40 : FVec F S20000 .f32 := subf main_v39 main_v27
  let main_cst_1 : FVec F S_ .f32 := constant S_ .f32 0x2EDBE6FF#32
  let main_v41 : FVec F S20000 .f32 := broadcastInDim S20000 ![] bcast_S_S20000 main_cst_1
  let main_v42 : FVec F S20000 .f32 := addf main_v40 main_v41
  let main_v43 : FVec F S20000 .f32 := Host.divf main_v27 main_v42
  let main_v44 : FVec F S20000 .f32 := shapeCast S20000 main_arg1 shapeCasts_S1x1x20000_S20000
  fn_part2 (F := F) main_arg2 main_arg3 main_v43 main_v44

def fn {F : FTy → Type} [FloatOps F] (main_arg0 : FVec F S1x20000x4 .f32) (main_arg1 : FVec F S1x1x20000 .f32) (main_arg2 : FVec F S1 .f32) (main_arg3 : FVec F S1 .f32) : IVec S20000 1 :=
  let main_v0 : FVec F S20000x4 .f32 := shapeCast S20000x4 main_arg0 shapeCasts_S1x20000x4_S20000x4
  let main_v1 : FVec F S20000x1 .f32 := (extractStridedSlice S20000x1 ![0, 2] · slices_S20000x4_S20000x1_0_2) main_v0
  let main_v2 : FVec F S20000 .f32 := shapeCast S20000 main_v1 shapeCasts_S20000x1_S20000
  let main_v3 : FVec F S20000x1 .f32 := (extractStridedSlice S20000x1 ![0, 2] · slices_S20000x4_S20000x1_0_2) main_v0
  let main_v4 : FVec F S20000 .f32 := shapeCast S20000 main_v3 shapeCasts_S20000x1_S20000
  let main_v5 : FVec F S20000 .f32 := minimumf main_v2 main_v4
  let main_v6 : FVec F S20000x1 .f32 := (extractStridedSlice S20000x1 ![0, 0] · slices_S20000x4_S20000x1_0_0) main_v0
  let main_v7 : FVec F S20000 .f32 := shapeCast S20000 main_v6 shapeCasts_S20000x1_S20000
  let main_v8 : FVec F S20000x1 .f32 := (extractStridedSlice S20000x1 ![0, 0] · slices_S20000x4_S20000x1_0_0) main_v0
  let main_v9 : FVec F S20000 .f32 := shapeCast S20000 main_v8 shapeCasts_S20000x1_S20000
  let main_v10 : FVec F S20000 .f32 := maximumf main_v7 main_v9
  let main_v11 : FVec F S20000 .f32 := subf main_v5 main_v10
  let main_cst : FVec F S_ .f32 := constant S_ .f32 0x00000000#32
  let main_v12 : FVec F S20000 .f32 := broadcastInDim S20000 ![] bcast_S_S20000 main_cst
  let main_v13 : FVec F S20000 .f32 := maximumf main_v11 main_v12
  let main_v14 : FVec F S20000x1 .f32 := (extractStridedSlice S20000x1 ![0, 3] · slices_S20000x4_S20000x1_0_3) main_v0
  let main_v15 : FVec F S20000 .f32 := shapeCast S20000 main_v14 shapeCasts_S20000x1_S20000
  let main_v16 : FVec F S20000x1 .f32 := (extractStridedSlice S20000x1 ![0, 3] · slices_S20000x4_S20000x1_0_3) main_v0
  let main_v17 : FVec F S20000 .f32 := shapeCast S20000 main_v16 shapeCasts_S20000x1_S20000
  let main_v18 : FVec F S20000 .f32 := minimumf main_v15 main_v17
  let main_v19 : FVec F S20000x1 .f32 := (extractStridedSlice S20000x1 ![0, 1] · slices_S20000x4_S20000x1_0_1) main_v0
  let main_v20 : FVec F S20000 .f32 := shapeCast S20000 main_v19 shapeCasts_S20000x1_S20000
  let main_v21 : FVec F S20000x1 .f32 := (extractStridedSlice S20000x1 ![0, 1] · slices_S20000x4_S20000x1_0_1) main_v0
  let main_v22 : FVec F S20000 .f32 := shapeCast S20000 main_v21 shapeCasts_S20000x1_S20000
  fn_part1 (F := F) main_arg1 main_arg2 main_arg3 main_v0 main_v13 main_v18 main_v20 main_v22
-- ==== KernelIdeal.lean ====
abbrev S1x20000x4 : Shape := ⟨3, ![1, 20000, 4]⟩
abbrev S1x1x20000 : Shape := ⟨3, ![1, 1, 20000]⟩
abbrev S1 : Shape := ⟨1, ![1]⟩
abbrev S20000 : Shape := ⟨1, ![20000]⟩
abbrev S_ : Shape := ⟨0, ![]⟩
abbrev S2 : Shape := ⟨1, ![2]⟩
abbrev S1x2 : Shape := ⟨2, ![1, 2]⟩
abbrev S20000x4 : Shape := ⟨2, ![20000, 4]⟩
abbrev S20000x1 : Shape := ⟨2, ![20000, 1]⟩
abbrev S20096 : Shape := ⟨1, ![20096]⟩
abbrev S157x128 : Shape := ⟨2, ![157, 128]⟩
abbrev S20096x4 : Shape := ⟨2, ![20096, 4]⟩
abbrev S80384 : Shape := ⟨1, ![80384]⟩
abbrev S1x1 : Shape := ⟨2, ![1, 1]⟩
abbrev S1x157x128 : Shape := ⟨3, ![1, 157, 128]⟩
abbrev S1x1x1 : Shape := ⟨3, ![1, 1, 1]⟩

abbrev nBuf : Space → Nat
  | .hbm => 124
  | .vmem => 7
  | .smem => 2
  | _ => 0

abbrev bufTy : (tb : Table) → Fin (tcTables nBuf tb) → BufTy
  | .hbm, ⟨0, _⟩ => ⟨S1x20000x4, .f32⟩
  | .hbm, ⟨1, _⟩ => ⟨S1x1x20000, .f32⟩
  | .hbm, ⟨2, _⟩ => ⟨S1, .f32⟩
  | .hbm, ⟨3, _⟩ => ⟨S1, .f32⟩
  | .hbm, ⟨4, _⟩ => ⟨S20000, .i32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S1, .f32⟩
  | .hbm, ⟨9, _⟩ => ⟨S2, .f32⟩
  | .hbm, ⟨10, _⟩ => ⟨S1x2, .f32⟩
  | .hbm, ⟨11, _⟩ => ⟨S20000x4, .f32⟩
  | .hbm, ⟨12, _⟩ => ⟨S20000, .f32⟩
  | .hbm, ⟨13, _⟩ => ⟨S20000, .f32⟩
  | .hbm, ⟨14, _⟩ => ⟨S20000, .i32⟩
  | .hbm, ⟨15, _⟩ => ⟨S20000, .f32⟩
  | .hbm, ⟨16, _⟩ => ⟨S20000, .i32⟩
  | .hbm, ⟨17, _⟩ => ⟨S_, .i32⟩
  | .hbm, ⟨18, _⟩ => ⟨S20000, .i32⟩
  | .hbm, ⟨19, _⟩ => ⟨S20000, .i1⟩
  | .hbm, ⟨20, _⟩ => ⟨S_, .i32⟩
  | .hbm, ⟨21, _⟩ => ⟨S20000, .i32⟩
  | .hbm, ⟨22, _⟩ => ⟨S20000, .i32⟩
  | .hbm, ⟨23, _⟩ => ⟨S20000, .i32⟩
  | .hbm, ⟨24, _⟩ => ⟨S20000x1, .i32⟩
  | .hbm, ⟨25, _⟩ => ⟨S20000x4, .f32⟩
  | .hbm, ⟨26, _⟩ => ⟨S_, .i32⟩
  | .hbm, ⟨27, _⟩ => ⟨S20000, .i32⟩
  | .hbm, ⟨28, _⟩ => ⟨S20000, .i1⟩
  | .hbm, ⟨29, _⟩ => ⟨S_, .i32⟩
  | .hbm, ⟨30, _⟩ => ⟨S20000, .i32⟩
  | .hbm, ⟨31, _⟩ => ⟨S20000, .i32⟩
  | .hbm, ⟨32, _⟩ => ⟨S20000, .i32⟩
  | .hbm, ⟨33, _⟩ => ⟨S20000x1, .i32⟩
  | .hbm, ⟨34, _⟩ => ⟨S20000, .f32⟩
  | .hbm, ⟨35, _⟩ => ⟨S20000x1, .f32⟩
  | .hbm, ⟨36, _⟩ => ⟨S20000, .f32⟩
  | .hbm, ⟨37, _⟩ => ⟨S_, .i32⟩
  | .hbm, ⟨38, _⟩ => ⟨S_, .f32⟩
  | .hbm, ⟨39, _⟩ => ⟨S20096, .f32⟩
  | .hbm, ⟨40, _⟩ => ⟨S157x128, .f32⟩
  | .hbm, ⟨41, _⟩ => ⟨S20000x1, .f32⟩
  | .hbm, ⟨42, _⟩ => ⟨S20000, .f32⟩
  | .hbm, ⟨43, _⟩ => ⟨S_, .i32⟩
  | .hbm, ⟨44, _⟩ => ⟨S_, .f32⟩
  | .hbm, ⟨45, _⟩ => ⟨S20096, .f32⟩
  | .hbm, ⟨46, _⟩ => ⟨S157x128, .f32⟩
  | .hbm, ⟨47, _⟩ => ⟨S20000x1, .f32⟩
  | .hbm, ⟨48, _⟩ => ⟨S20000, .f32⟩
  | .hbm, ⟨49, _⟩ => ⟨S_, .i32⟩
  | .hbm, ⟨50, _⟩ => ⟨S_, .f32⟩
  | .hbm, ⟨51, _⟩ => ⟨S20096, .f32⟩
  | .hbm, ⟨52, _⟩ => ⟨S157x128, .f32⟩
  | .hbm, ⟨53, _⟩ => ⟨S20000x1, .f32⟩
  | .hbm, ⟨54, _⟩ => ⟨S20000, .f32⟩
  | .hbm, ⟨55, _⟩ => ⟨S_, .i32⟩
  | .hbm, ⟨56, _⟩ => ⟨S_, .f32⟩
  | .hbm, ⟨57, _⟩ => ⟨S20096, .f32⟩
  | .hbm, ⟨58, _⟩ => ⟨S157x128, .f32⟩
  | .hbm, ⟨59, _⟩ => ⟨S157x128, .f32⟩
  | .hbm, ⟨60, _⟩ => ⟨S157x128, .f32⟩
  | .hbm, ⟨61, _⟩ => ⟨S157x128, .f32⟩
  | .hbm, ⟨62, _⟩ => ⟨S_, .f32⟩
  | .hbm, ⟨63, _⟩ => ⟨S_, .f32⟩
  | .hbm, ⟨64, _⟩ => ⟨S20096, .f32⟩
  | .hbm, ⟨65, _⟩ => ⟨S157x128, .f32⟩
  | .hbm, ⟨66, _⟩ => ⟨S_, .i32⟩
  | .hbm, ⟨67, _⟩ => ⟨S_, .f32⟩
  | .hbm, ⟨68, _⟩ => ⟨S20096x4, .f32⟩
  | .hbm, ⟨69, _⟩ => ⟨S80384, .f32⟩
  | .hbm, ⟨70, _⟩ => ⟨S157x128, .i32⟩
  | .hbm, ⟨71, _⟩ => ⟨S20096, .i32⟩
  | .hbm, ⟨72, _⟩ => ⟨S20000, .i32⟩
  | .hbm, ⟨73, _⟩ => ⟨S_, .i32⟩
  | .hbm, ⟨74, _⟩ => ⟨S20000, .i32⟩
  | .hbm, ⟨75, _⟩ => ⟨S20000, .i1⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S20000, .i32⟩
  | .hbm, ⟨80, _⟩ => ⟨S20000, .i32⟩
  | .hbm, ⟨81, _⟩ => ⟨S_, .i32⟩
  | .hbm, ⟨82, _⟩ => ⟨S20000, .i32⟩
  | .hbm, ⟨83, _⟩ => ⟨S20000, .i32⟩
  | .hbm, ⟨84, _⟩ => ⟨S_, .i32⟩
  | .hbm, ⟨85, _⟩ => ⟨S20000, .i32⟩
  | .hbm, ⟨86, _⟩ => ⟨S20000, .i1⟩
  | .hbm, ⟨87, _⟩ => ⟨S_, .i32⟩
  | .hbm, ⟨88, _⟩ => ⟨S20000, .i32⟩
  | .hbm, ⟨89, _⟩ => ⟨S20000, .i32⟩
  | .hbm, ⟨90, _⟩ => ⟨S20000, .i32⟩
  | .hbm, ⟨91, _⟩ => ⟨S20000x1, .i32⟩
  | .hbm, ⟨92, _⟩ => ⟨S20000, .i32⟩
  | .hbm, ⟨93, _⟩ => ⟨S20000, .i32⟩
  | .hbm, ⟨94, _⟩ => ⟨S_, .i32⟩
  | .hbm, ⟨95, _⟩ => ⟨S20000, .i32⟩
  | .hbm, ⟨96, _⟩ => ⟨S_, .i32⟩
  | .hbm, ⟨97, _⟩ => ⟨S20000, .i32⟩
  | .hbm, ⟨98, _⟩ => ⟨S20000, .i1⟩
  | .hbm, ⟨99, _⟩ => ⟨S_, .i32⟩
  | .hbm, ⟨100, _⟩ => ⟨S20000, .i32⟩
  | .hbm, ⟨101, _⟩ => ⟨S20000, .i32⟩
  | .hbm, ⟨102, _⟩ => ⟨S20000, .i32⟩
  | .hbm, ⟨103, _⟩ => ⟨S20000x1, .i32⟩
  | .hbm, ⟨104, _⟩ => ⟨S20000, .i32⟩
  | .hbm, ⟨105, _⟩ => ⟨S_, .i32⟩
  | .hbm, ⟨106, _⟩ => ⟨S20000, .i32⟩
  | .hbm, ⟨107, _⟩ => ⟨S20000, .i1⟩
  | .hbm, ⟨108, _⟩ => ⟨S20000, .i1⟩
  | .hbm, ⟨109, _⟩ => ⟨S20000, .i1⟩
  | .hbm, ⟨110, _⟩ => ⟨S_, .i32⟩
  | .hbm, ⟨111, _⟩ => ⟨S20000, .i32⟩
  | .hbm, ⟨112, _⟩ => ⟨S_, .i32⟩
  | .hbm, ⟨113, _⟩ => ⟨S20000, .i32⟩
  | .hbm, ⟨114, _⟩ => ⟨S20000x1, .i32⟩
  | .hbm, ⟨115, _⟩ => ⟨S20000x1, .i32⟩
  | .hbm, ⟨116, _⟩ => ⟨S20000x1, .i32⟩
  | .hbm, ⟨117, _⟩ => ⟨S20000x1, .i32⟩
  | .hbm, ⟨118, _⟩ => ⟨S20000x4, .i32⟩
  | .hbm, ⟨119, _⟩ => ⟨S20000x1, .i1⟩
  | .hbm, ⟨120, _⟩ => ⟨S_, .i32⟩
  | .hbm, ⟨121, _⟩ => ⟨S20000x4, .i1⟩
  | .hbm, ⟨122, _⟩ => ⟨S20000x4, .i32⟩
  | .hbm, ⟨123, _⟩ => ⟨S20000x4, .i32⟩
  | .local _ .vmem, ⟨0, _⟩ => ⟨S157x128, .f32⟩
  | .local _ .vmem, ⟨1, _⟩ => ⟨S157x128, .f32⟩
  | .local _ .vmem, ⟨2, _⟩ => ⟨S157x128, .f32⟩
  | .local _ .vmem, ⟨3, _⟩ => ⟨S157x128, .f32⟩
  | .local _ .vmem, ⟨4, _⟩ => ⟨S157x128, .f32⟩
  | .local _ .vmem, ⟨5, _⟩ => ⟨S157x128, .f32⟩
  | .local _ .vmem, ⟨6, _⟩ => ⟨S157x128, .i32⟩
  | .local _ .smem, ⟨0, _⟩ => ⟨S80384, .f32⟩
  | .local _ .smem, ⟨1, _⟩ => ⟨S1x2, .f32⟩
  | _, _ => ⟨S1x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_v1_0 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_call1_v0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_call2_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_call3_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_6 : Ref sig .tc := ⟨.hbm, 55, rfl⟩
abbrev main_call4_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst : Ref sig .tc := ⟨.hbm, 62, rfl⟩
abbrev main_call5_v0 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_call6_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_c_10 : Ref sig .tc := ⟨.hbm, 77, rfl⟩
abbrev main_call7_v0 : Ref sig .tc := ⟨.hbm, 78, rfl⟩
abbrev main_call7_v1 : Ref sig .tc := ⟨.hbm, 79, rfl⟩
abbrev main_call7_v2 : Ref sig .tc := ⟨.hbm, 80, rfl⟩
abbrev main_call7_v3 : Ref sig .tc := ⟨.hbm, 81, rfl⟩
abbrev main_call7_v4 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_c_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_c_14 : Ref sig .tc := ⟨.hbm, 96, rfl⟩
abbrev main_v63 : Ref sig .tc := ⟨.hbm, 97, rfl⟩
abbrev main_v64 : Ref sig .tc := ⟨.hbm, 98, rfl⟩
abbrev main_c_15 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_16 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_c_18 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_19 : Ref sig .tc := ⟨.hbm, 120, rfl⟩
abbrev main_call9_v0 : Ref sig .tc := ⟨.hbm, 121, rfl⟩
abbrev main_call9_v1 : Ref sig .tc := ⟨.hbm, 122, rfl⟩
abbrev main_v82 : Ref sig .tc := ⟨.hbm, 123, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg8_0 : Ref sig .tc := ⟨.vmem, 6, rfl⟩
abbrev cc0_stg0_0 : Ref sig .tc := ⟨.smem, 0, rfl⟩
abbrev cc0_stg7_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_off1 (arg9 : BitVec 32) : Fin 1 → Nat :=
  let c4_i32 : BitVec 32 := 4#32
  let v38 : BitVec 32 := Scalar.muli arg9 c4_i32
  let v39 : Index := Scalar.indexCast v38
  ![v39.toNat]

def k0_off2 (arg9 : BitVec 32) (c1_i32 : BitVec 32) : Fin 1 → Nat :=
  let c4_i32 : BitVec 32 := 4#32
  let v38 : BitVec 32 := Scalar.muli arg9 c4_i32
  let v41 : BitVec 32 := Scalar.addi v38 c1_i32
  let v42 : Index := Scalar.indexCast v41
  ![v42.toNat]

def k0_chk1 (arg9 : BitVec 32) : Prop :=
  (∀ a, (k0_off1 arg9) a + S1.size a ≤ S80384.size a) ∧
  (∀ (r : Fin 3), ∀ a, (k0_off2 arg9 (BitVec.ofNat 32 (1 + r.val))) a + S1.size a ≤ S80384.size a)
theorem k0_off1_inb : ∀ (arg9 : BitVec 32) (k0_hw1 : k0_chk1 arg9), ∀ a, (k0_off1 arg9) a + S1.size a ≤ S80384.size a := fun arg9 k0_hw1 => k0_hw1.1
theorem k0_off2_inb : ∀ (arg9 : BitVec 32) (k0_hw1 : k0_chk1 arg9), ∀ (r : Fin 3), ∀ a, (k0_off2 arg9 (BitVec.ofNat 32 (1 + r.val))) a + S1.size a ≤ S80384.size a := fun arg9 k0_hw1 r => k0_hw1.2 r

abbrev stage0_0 : Fin 1 → Memref sig .tc .smem S80384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S157x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S157x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S157x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S157x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S157x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S157x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S157x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S1x20000x4 : Shape := ⟨3, ![1, 20000, 4]⟩
abbrev S1x1x20000 : Shape := ⟨3, ![1, 1, 20000]⟩
abbrev S1 : Shape := ⟨1, ![1]⟩
abbrev S_ : Shape := ⟨0, ![]⟩
abbrev S20000 : Shape := ⟨1, ![20000]⟩
abbrev S20000x4 : Shape := ⟨2, ![20000, 4]⟩
abbrev S1x4 : Shape := ⟨2, ![1, 4]⟩
abbrev S4 : Shape := ⟨1, ![4]⟩
abbrev S20000x1 : Shape := ⟨2, ![20000, 1]⟩

abbrev nBuf : Space → Nat
  | .hbm => 158
  | .vmem => 0
  | .smem => 0
  | _ => 0

abbrev hbmTy0_0 (i : Nat) : BufTy := match i % 128 with
  | 0 => ⟨S1x20000x4, .f32⟩
  | 1 => ⟨S1x1x20000, .f32⟩
  | 2 => ⟨S1, .f32⟩
  | 3 => ⟨S1, .f32⟩
  | 4 => ⟨S_, .f32⟩
  | 5 => ⟨S_, .f32⟩
  | 6 => ⟨S20000, .i32⟩
  | 7 => ⟨S20000x4, .f32⟩
  | 8 => ⟨S20000, .f32⟩
  | 9 => ⟨S20000, .f32⟩
  | 10 => ⟨S20000, .i32⟩
  | 11 => ⟨S20000, .f32⟩
  | 12 => ⟨S20000, .i32⟩
  | 13 => ⟨S20000, .f32⟩
  | 14 => ⟨S20000, .i1⟩
  | 15 => ⟨S_, .i32⟩
  | 16 => ⟨S_, .i32⟩
  | 17 => ⟨S20000, .i32⟩
  | 18 => ⟨S20000, .i32⟩
  | 19 => ⟨S20000, .i32⟩
  | 20 => ⟨S_, .i32⟩
  | 21 => ⟨S_, .i32⟩
  | 22 => ⟨S20000, .i32⟩
  | 23 => ⟨S20000x4, .f32⟩
  | 24 => ⟨S_, .f32⟩
  | 25 => ⟨S_, .i32⟩
  | 26 => ⟨S_, .i32⟩
  | 27 => ⟨S20000, .i32⟩
  | 28 => ⟨S_, .i32⟩
  | 29 => ⟨S_, .i1⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S1, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S1, .i32⟩
  | 46 => ⟨S_, .i32⟩
  | 47 => ⟨S_, .i32⟩
  | 48 => ⟨S_, .i1⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S1x4, .f32⟩
  | 63 => ⟨S4, .f32⟩
  | 64 => ⟨S1, .f32⟩
  | 65 => ⟨S_, .f32⟩
  | 66 => ⟨S20000x1, .f32⟩
  | 67 => ⟨S20000, .f32⟩
  | 68 => ⟨S20000, .f32⟩
  | 69 => ⟨S20000, .f32⟩
  | 70 => ⟨S1, .f32⟩
  | 71 => ⟨S_, .f32⟩
  | 72 => ⟨S20000x1, .f32⟩
  | 73 => ⟨S20000, .f32⟩
  | 74 => ⟨S20000, .f32⟩
  | 75 => ⟨S20000, .f32⟩
  | 76 => ⟨S1, .f32⟩
  | 77 => ⟨S_, .f32⟩
  | 78 => ⟨S20000x1, .f32⟩
  | 79 => ⟨S20000, .f32⟩
  | 80 => ⟨S20000, .f32⟩
  | 81 => ⟨S20000, .f32⟩
  | 82 => ⟨S1, .f32⟩
  | 83 => ⟨S_, .f32⟩
  | 84 => ⟨S20000x1, .f32⟩
  | 85 => ⟨S20000, .f32⟩
  | 86 => ⟨S20000, .f32⟩
  | 87 => ⟨S20000, .f32⟩
  | 88 => ⟨S20000, .f32⟩
  | 89 => ⟨S_, .f32⟩
  | 90 => ⟨S_, .f32⟩
  | 91 => ⟨S20000, .f32⟩
  | 92 => ⟨S20000, .f32⟩
  | 93 => ⟨S20000, .f32⟩
  | 94 => ⟨S_, .f32⟩
  | 95 => ⟨S_, .f32⟩
  | 96 => ⟨S20000, .f32⟩
  | 97 => ⟨S20000, .f32⟩
  | 98 => ⟨S20000, .f32⟩
  | 99 => ⟨S1, .f32⟩
  | 100 => ⟨S_, .f32⟩
  | 101 => ⟨S1, .f32⟩
  | 102 => ⟨S_, .f32⟩
  | 103 => ⟨S_, .f32⟩
  | 104 => ⟨S1, .f32⟩
  | 105 => ⟨S_, .f32⟩
  | 106 => ⟨S1, .f32⟩
  | 107 => ⟨S_, .f32⟩
  | 108 => ⟨S_, .f32⟩
  | 109 => ⟨S_, .f32⟩
  | 110 => ⟨S20000x1, .f32⟩
  | 111 => ⟨S20000, .f32⟩
  | 112 => ⟨S20000x1, .f32⟩
  | 113 => ⟨S20000, .f32⟩
  | 114 => ⟨S20000, .f32⟩
  | 115 => ⟨S20000x1, .f32⟩
  | 116 => ⟨S20000, .f32⟩
  | 117 => ⟨S20000x1, .f32⟩
  | 118 => ⟨S20000, .f32⟩
  | 119 => ⟨S20000, .f32⟩
  | 120 => ⟨S20000, .f32⟩
  | 121 => ⟨S20000, .f32⟩
  | 122 => ⟨S20000, .f32⟩
  | 123 => ⟨S20000, .f32⟩
  | 124 => ⟨S_, .f32⟩
  | 125 => ⟨S20000, .f32⟩
  | 126 => ⟨S20000, .f32⟩
  | 127 => ⟨S20000, .f32⟩
  | _ => ⟨S1x20000x4, .f32⟩

abbrev hbmTy0_1 (i : Nat) : BufTy := match i % 128 with
  | 0 => ⟨S_, .i32⟩
  | 1 => ⟨S20000, .i32⟩
  | 2 => ⟨S20000, .i1⟩
  | 3 => ⟨S20000, .f32⟩
  | 4 => ⟨S20000, .i1⟩
  | 5 => ⟨S20000, .i1⟩
  | 6 => ⟨S20000, .i32⟩
  | 7 => ⟨S20000, .i32⟩
  | 8 => ⟨S20000, .i32⟩
  | 9 => ⟨S_, .i32⟩
  | 10 => ⟨S_, .i32⟩
  | 11 => ⟨S_, .i32⟩
  | 12 => ⟨S20000, .i32⟩
  | 13 => ⟨S20000, .i1⟩
  | 14 => ⟨S20000, .i1⟩
  | 15 => ⟨S20000, .i1⟩
  | 16 => ⟨S_, .i32⟩
  | 17 => ⟨S20000, .i32⟩
  | 18 => ⟨S_, .i32⟩
  | 19 => ⟨S20000, .i32⟩
  | 20 => ⟨S20000x1, .i32⟩
  | 21 => ⟨S20000x1, .i32⟩
  | 22 => ⟨S20000x1, .i32⟩
  | 23 => ⟨S20000x1, .i32⟩
  | 24 => ⟨S20000x4, .i32⟩
  | 25 => ⟨S20000x1, .i1⟩
  | 26 => ⟨S_, .i32⟩
  | 27 => ⟨S20000x4, .i1⟩
  | 28 => ⟨S20000x4, .i32⟩
  | 29 => ⟨S20000x4, .i32⟩
  | _ => ⟨S1x20000x4, .f32⟩

abbrev hbmTy (i : Nat) : BufTy := match i / 128 with
  | 0 => hbmTy0_0 i
  | 1 => hbmTy0_1 i
  | _ => ⟨S1x20000x4, .f32⟩

abbrev bufTy : (tb : Table) → Fin (tcTables nBuf tb) → BufTy
  | .hbm, ⟨i, _⟩ => hbmTy i
  | _, _ => ⟨S1x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_c_0 : Ref sig .tc := ⟨.hbm, 16, rfl⟩
abbrev main_call1_v0 : Ref sig .tc := ⟨.hbm, 17, rfl⟩
abbrev main_call1_v1 : Ref sig .tc := ⟨.hbm, 18, rfl⟩
abbrev main_v9 : Ref sig .tc := ⟨.hbm, 19, rfl⟩
abbrev main_c_1 : Ref sig .tc := ⟨.hbm, 20, rfl⟩
abbrev main_c_2 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev main_v10_4 : Ref sig .tc := ⟨.hbm, 26, rfl⟩
abbrev main_v10_5 : Ref sig .tc := ⟨.hbm, 27, rfl⟩
abbrev main_while0c_c_12 : Ref sig .tc := ⟨.hbm, 28, rfl⟩
abbrev main_while0c_v24 : Ref sig .tc := ⟨.hbm, 29, rfl⟩
abbrev main_while0b_c_12 : Ref sig .tc := ⟨.hbm, 30, rfl⟩
abbrev main_while0b_v24 : Ref sig .tc := ⟨.hbm, 31, rfl⟩
abbrev main_while0b_c_13 : Ref sig .tc := ⟨.hbm, 32, rfl⟩
abbrev main_while0b_v25 : Ref sig .tc := ⟨.hbm, 33, rfl⟩
abbrev main_while0b_v26 : Ref sig .tc := ⟨.hbm, 34, rfl⟩
abbrev main_while0b_c_14 : Ref sig .tc := ⟨.hbm, 35, rfl⟩
abbrev main_while0b_v27 : Ref sig .tc := ⟨.hbm, 36, rfl⟩
abbrev main_while0b_v28 : Ref sig .tc := ⟨.hbm, 37, rfl⟩
abbrev main_while0b_v29 : Ref sig .tc := ⟨.hbm, 38, rfl⟩
abbrev main_while0b_v30 : Ref sig .tc := ⟨.hbm, 39, rfl⟩
abbrev main_while0b_c_15 : Ref sig .tc := ⟨.hbm, 40, rfl⟩
abbrev main_while0b_v31 : Ref sig .tc := ⟨.hbm, 41, rfl⟩
abbrev main_while0b_c_16 : Ref sig .tc := ⟨.hbm, 42, rfl⟩
abbrev main_while0b_v32 : Ref sig .tc := ⟨.hbm, 43, rfl⟩
abbrev main_while0b_v33 : Ref sig .tc := ⟨.hbm, 44, rfl⟩
abbrev main_while0b_v34 : Ref sig .tc := ⟨.hbm, 45, rfl⟩
abbrev main_while0b_v35 : Ref sig .tc := ⟨.hbm, 46, rfl⟩
abbrev main_while0b_c_17 : Ref sig .tc := ⟨.hbm, 47, rfl⟩
abbrev main_while0b_v36 : Ref sig .tc := ⟨.hbm, 48, rfl⟩
abbrev main_while0b_c_18 : Ref sig .tc := ⟨.hbm, 49, rfl⟩
abbrev main_while0b_v37 : Ref sig .tc := ⟨.hbm, 50, rfl⟩
abbrev main_while0b_c_19 : Ref sig .tc := ⟨.hbm, 51, rfl⟩
abbrev main_while0b_v38 : Ref sig .tc := ⟨.hbm, 52, rfl⟩
abbrev main_while0b_v39 : Ref sig .tc := ⟨.hbm, 53, rfl⟩
abbrev main_while0b_c_20 : Ref sig .tc := ⟨.hbm, 54, rfl⟩
abbrev main_while0b_c_21 : Ref sig .tc := ⟨.hbm, 55, rfl⟩
abbrev main_while0b_v40 : Ref sig .tc := ⟨.hbm, 56, rfl⟩
abbrev main_while0b_c_22 : Ref sig .tc := ⟨.hbm, 57, rfl⟩
abbrev main_while0b_c_23 : Ref sig .tc := ⟨.hbm, 58, rfl⟩
abbrev main_while0b_v41 : Ref sig .tc := ⟨.hbm, 59, rfl⟩
abbrev main_while0b_c_24 : Ref sig .tc := ⟨.hbm, 60, rfl⟩
abbrev main_while0b_v42 : Ref sig .tc := ⟨.hbm, 61, rfl⟩
abbrev main_while0b_v43 : Ref sig .tc := ⟨.hbm, 62, rfl⟩
abbrev main_while0b_v44 : Ref sig .tc := ⟨.hbm, 63, rfl⟩
abbrev main_while0b_v45 : Ref sig .tc := ⟨.hbm, 64, rfl⟩
abbrev main_while0b_v46 : Ref sig .tc := ⟨.hbm, 65, rfl⟩
abbrev main_while0b_v47 : Ref sig .tc := ⟨.hbm, 66, rfl⟩
abbrev main_while0b_v48 : Ref sig .tc := ⟨.hbm, 67, rfl⟩
abbrev main_while0b_v49 : Ref sig .tc := ⟨.hbm, 68, rfl⟩
abbrev main_while0b_v50 : Ref sig .tc := ⟨.hbm, 69, rfl⟩
abbrev main_while0b_v51 : Ref sig .tc := ⟨.hbm, 70, rfl⟩
abbrev main_while0b_v52 : Ref sig .tc := ⟨.hbm, 71, rfl⟩
abbrev main_while0b_v53 : Ref sig .tc := ⟨.hbm, 72, rfl⟩
abbrev main_while0b_v54 : Ref sig .tc := ⟨.hbm, 73, rfl⟩
abbrev main_while0b_v55 : Ref sig .tc := ⟨.hbm, 74, rfl⟩
abbrev main_while0b_v56 : Ref sig .tc := ⟨.hbm, 75, rfl⟩
abbrev main_while0b_v57 : Ref sig .tc := ⟨.hbm, 76, rfl⟩
abbrev main_while0b_v58 : Ref sig .tc := ⟨.hbm, 77, rfl⟩
abbrev main_while0b_v59 : Ref sig .tc := ⟨.hbm, 78, rfl⟩
abbrev main_while0b_v60 : Ref sig .tc := ⟨.hbm, 79, rfl⟩
abbrev main_while0b_v61 : Ref sig .tc := ⟨.hbm, 80, rfl⟩
abbrev main_while0b_v62 : Ref sig .tc := ⟨.hbm, 81, rfl⟩
abbrev main_while0b_v63 : Ref sig .tc := ⟨.hbm, 82, rfl⟩
abbrev main_while0b_v64 : Ref sig .tc := ⟨.hbm, 83, rfl⟩
abbrev main_while0b_v65 : Ref sig .tc := ⟨.hbm, 84, rfl⟩
abbrev main_while0b_v66 : Ref sig .tc := ⟨.hbm, 85, rfl⟩
abbrev main_while0b_v67 : Ref sig .tc := ⟨.hbm, 86, rfl⟩
abbrev main_while0b_v68 : Ref sig .tc := ⟨.hbm, 87, rfl⟩
abbrev main_while0b_v69 : Ref sig .tc := ⟨.hbm, 88, rfl⟩
abbrev main_while0b_cst : Ref sig .tc := ⟨.hbm, 89, rfl⟩
abbrev main_while0b_call2_v0 : Ref sig .tc := ⟨.hbm, 90, rfl⟩
abbrev main_while0b_call2_v1 : Ref sig .tc := ⟨.hbm, 91, rfl⟩
abbrev main_while0b_v70 : Ref sig .tc := ⟨.hbm, 92, rfl⟩
abbrev main_while0b_v71 : Ref sig .tc := ⟨.hbm, 93, rfl⟩
abbrev main_while0b_cst_25 : Ref sig .tc := ⟨.hbm, 94, rfl⟩
abbrev main_while0b_call3_v0 : Ref sig .tc := ⟨.hbm, 95, rfl⟩
abbrev main_while0b_call3_v1 : Ref sig .tc := ⟨.hbm, 96, rfl⟩
abbrev main_while0b_v72 : Ref sig .tc := ⟨.hbm, 97, rfl⟩
abbrev main_while0b_v73 : Ref sig .tc := ⟨.hbm, 98, rfl⟩
abbrev main_while0b_v74 : Ref sig .tc := ⟨.hbm, 99, rfl⟩
abbrev main_while0b_v75 : Ref sig .tc := ⟨.hbm, 100, rfl⟩
abbrev main_while0b_v76 : Ref sig .tc := ⟨.hbm, 101, rfl⟩
abbrev main_while0b_v77 : Ref sig .tc := ⟨.hbm, 102, rfl⟩
abbrev main_while0b_v78 : Ref sig .tc := ⟨.hbm, 103, rfl⟩
abbrev main_while0b_v79 : Ref sig .tc := ⟨.hbm, 104, rfl⟩
abbrev main_while0b_v80 : Ref sig .tc := ⟨.hbm, 105, rfl⟩
abbrev main_while0b_v81 : Ref sig .tc := ⟨.hbm, 106, rfl⟩
abbrev main_while0b_v82 : Ref sig .tc := ⟨.hbm, 107, rfl⟩
abbrev main_while0b_v83 : Ref sig .tc := ⟨.hbm, 108, rfl⟩
abbrev main_while0b_v84 : Ref sig .tc := ⟨.hbm, 109, rfl⟩
abbrev main_while0b_v85 : Ref sig .tc := ⟨.hbm, 110, rfl⟩
abbrev main_while0b_v86 : Ref sig .tc := ⟨.hbm, 111, rfl⟩
abbrev main_while0b_v87 : Ref sig .tc := ⟨.hbm, 112, rfl⟩
abbrev main_while0b_v88 : Ref sig .tc := ⟨.hbm, 113, rfl⟩
abbrev main_while0b_v89 : Ref sig .tc := ⟨.hbm, 114, rfl⟩
abbrev main_while0b_v90 : Ref sig .tc := ⟨.hbm, 115, rfl⟩
abbrev main_while0b_v91 : Ref sig .tc := ⟨.hbm, 116, rfl⟩
abbrev main_while0b_v92 : Ref sig .tc := ⟨.hbm, 117, rfl⟩
abbrev main_while0b_v93 : Ref sig .tc := ⟨.hbm, 118, rfl⟩
abbrev main_while0b_v94 : Ref sig .tc := ⟨.hbm, 119, rfl⟩
abbrev main_while0b_v95 : Ref sig .tc := ⟨.hbm, 120, rfl⟩
abbrev main_while0b_v96 : Ref sig .tc := ⟨.hbm, 121, rfl⟩
abbrev main_while0b_v97 : Ref sig .tc := ⟨.hbm, 122, rfl⟩
abbrev main_while0b_v98 : Ref sig .tc := ⟨.hbm, 123, rfl⟩
abbrev main_while0b_cst_26 : Ref sig .tc := ⟨.hbm, 124, rfl⟩
abbrev main_while0b_v99 : Ref sig .tc := ⟨.hbm, 125, rfl⟩
abbrev main_while0b_v100 : Ref sig .tc := ⟨.hbm, 126, rfl⟩
abbrev main_while0b_v101 : Ref sig .tc := ⟨.hbm, 127, rfl⟩
abbrev main_while0b_c_27 : Ref sig .tc := ⟨.hbm, 128, rfl⟩
abbrev main_while0b_v102 : Ref sig .tc := ⟨.hbm, 129, rfl⟩
abbrev main_while0b_v103 : Ref sig .tc := ⟨.hbm, 130, rfl⟩
abbrev main_while0b_v104 : Ref sig .tc := ⟨.hbm, 131, rfl⟩
abbrev main_while0b_v105 : Ref sig .tc := ⟨.hbm, 132, rfl⟩
abbrev main_while0b_v106 : Ref sig .tc := ⟨.hbm, 133, rfl⟩
abbrev main_while0b_call4_v0 : Ref sig .tc := ⟨.hbm, 134, rfl⟩
abbrev main_while0b_v107 : Ref sig .tc := ⟨.hbm, 135, rfl⟩
abbrev main_while0b_v108 : Ref sig .tc := ⟨.hbm, 136, rfl⟩
abbrev main_while0b_c_28 : Ref sig .tc := ⟨.hbm, 137, rfl⟩
abbrev main_while0b_v109 : Ref sig .tc := ⟨.hbm, 138, rfl⟩
abbrev main_c_3 : Ref sig .tc := ⟨.hbm, 139, rfl⟩
abbrev main_v11 : Ref sig .tc := ⟨.hbm, 140, rfl⟩
abbrev main_v12 : Ref sig .tc := ⟨.hbm, 141, rfl⟩
abbrev main_v13 : Ref sig .tc := ⟨.hbm, 142, rfl⟩
abbrev main_v14 : Ref sig .tc := ⟨.hbm, 143, rfl⟩
abbrev main_c_4 : Ref sig .tc := ⟨.hbm, 144, rfl⟩
abbrev main_v15 : Ref sig .tc := ⟨.hbm, 145, rfl⟩
abbrev main_c_5 : Ref sig .tc := ⟨.hbm, 146, rfl⟩
abbrev main_v16 : Ref sig .tc := ⟨.hbm, 147, rfl⟩
abbrev main_v17 : Ref sig .tc := ⟨.hbm, 148, rfl⟩
abbrev main_v18 : Ref sig .tc := ⟨.hbm, 149, rfl⟩
abbrev main_v19 : Ref sig .tc := ⟨.hbm, 150, rfl⟩
abbrev main_v20 : Ref sig .tc := ⟨.hbm, 151, rfl⟩
abbrev main_v21 : Ref sig .tc := ⟨.hbm, 152, rfl⟩
abbrev main_v22 : Ref sig .tc := ⟨.hbm, 153, rfl⟩
abbrev main_c_6 : Ref sig .tc := ⟨.hbm, 154, rfl⟩
abbrev main_call6_v0 : Ref sig .tc := ⟨.hbm, 155, rfl⟩
abbrev main_call6_v1 : Ref sig .tc := ⟨.hbm, 156, rfl⟩
abbrev main_v23 : Ref sig .tc := ⟨.hbm, 157, rfl⟩

abbrev nD : Nat := 1
abbrev τ : Topo := Topo.v7x

variable {F : FTy → Type} [FloatOps F]

abbrev main_while0_count : Scf.Loop 32 := ⟨0#32, 20000#32, 1#32⟩
-- ==== Proof.KernelBody.lean ====
/-
  The kernel's body, for any float values. The body fills the match array from the scores, finds the first unmatched
  position and then loops: every trip reads the box of the current position out of scalar memory, marks the unmatched
  positions that overlap it and looks for the next unmatched position. This file names one trip on the match array
  (`kStep`), the position that follows (`kNext`), the match array after a number of trips (`kRun`) and the condition that
  the loop ends after that number of trips (`Halts`), and proves the body obligation of the pipeline under it.
-/
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameSuffix
public import Idealize.ShloMosaic.Lib.Tactic

@[expose] public section

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA)

variable {F : FTy → Type} [FloatOps F]

local notation "𝕄" => MT nD τ sig Unit (Elt F) ℕ (UR sig nD τ) ℕ

/-! ## One trip of the loop on values -/

/-- What the loop reads and never writes: the packed boxes, the four coordinates and the areas of every position, the
    overlap threshold. -/
structure Ins (F : FTy → Type) where
  pk : (cc0_stg0_0 : Ref sig .tc).ty.Contents (Elt F)
  b0 : FVec F S157x128 .f32
  b1 : FVec F S157x128 .f32
  b2 : FVec F S157x128 .f32
  b3 : FVec F S157x128 .f32
  ar : FVec F S157x128 .f32
  thr : Elt F .f32

/-- The word of the packed boxes at an offset. -/
def word (fp : (cc0_stg0_0 : Ref sig .tc).ty.Contents (Elt F)) (off : Fin 1 → ℕ) (h : ∀ a, off a + S1.size a ≤ S80384.size a) : Elt F .f32 :=
  ((Memref.whole cc0_stg0_0).access (Rect.unit (s := S80384) off S1.size h) : View sig .tc _ _ _).read (Elt F) fp
    (Shape.Idx.first (numel1_S1.symm ▸ Nat.one_pos))

/-- The match array after the trip at position `r`. -/
def kStep (I : Ins F) (r : BitVec 32) (h : k0_chk1 r) (g : IVec S157x128 32) : IVec S157x128 32 :=
  k0_pay11 I.b0 I.b1 I.b2 I.b3 I.ar I.thr r
    (word I.pk (k0_off1 r) (k0_off1_inb r h))
    (word I.pk (k0_off2 r 1#32) (k0_off2_inb r h 0))
    (word I.pk (k0_off2 r 2#32) (k0_off2_inb r h 1))
    (word I.pk (k0_off2 r 3#32) (k0_off2_inb r h 2)) g

/-- The position after a trip that left the match array at `g`. -/
def kNext (F : FTy → Type) [FloatOps F] (g : IVec S157x128 32) : BitVec 32 :=
  Scalar.fptosi 32 (k0_pay2 (F := F) (Scalar.ofBits .f32 0x469D0000#32) k0_pay8 g)

/-- The match array after `k` trips from position `r`. -/
def kRun (I : Ins F) : ℕ → BitVec 32 → IVec S157x128 32 → IVec S157x128 32
  | 0, _, g => g
  | k + 1, r, g => if h : k0_chk1 r then kRun I k (kNext F (kStep I r h g)) (kStep I r h g) else g

/-- The loop entered at position `r` with the match array `g` ends after exactly `k` trips, every one of them inside the
    packed boxes. -/
def Halts (I : Ins F) : ℕ → BitVec 32 → IVec S157x128 32 → Prop
  | 0, r, _ => ¬Scalar.cmpi .slt r 20096#32 = 1#1
  | k + 1, r, g => Scalar.cmpi .slt r 20096#32 = 1#1 ∧ ∃ h : k0_chk1 r, Halts I k (kNext F (kStep I r h g)) (kStep I r h g)

theorem kRun_succ (I : Ins F) (k : ℕ) (r : BitVec 32) (h : k0_chk1 r) (g : IVec S157x128 32) :
    kRun I (k + 1) r g = kRun I k (kNext F (kStep I r h g)) (kStep I r h g) := by
  rw [kRun, dif_pos h]

/-! ## The loop -/

abbrev 𝒱₀ : Variants := Variants.nat

/-- The match array's buffer, stored whole, is the stored value. -/
theorem write_whole (f w : (cc0_stg8_0 : Ref sig .tc).ty.Contents (Elt F)) :
    ((Memref.whole cc0_stg8_0).access (Rect.unit (s := S157x128) ![0, 0] S157x128.size inb_S157x128_S157x128_0_0) : View sig .tc _ _ _).write (Elt F) f w Finset.univ = w :=
  Memref.write_access_unit_zero_univ (Elt F) cc0_stg8_0 (funext fun a => by fin_cases a <;> rfl) _ f w

/-- and loaded whole it is the contents. -/
theorem read_whole (f : (cc0_stg8_0 : Ref sig .tc).ty.Contents (Elt F)) :
    (Memref.whole cc0_stg8_0 : Memref sig .tc _ _ _).view.readAt (Elt F)
      (Rect.unit (s := S157x128) ![0, 0] S157x128.size inb_S157x128_S157x128_0_0).toLoadRect f = f :=
  Memref.readAt_unit_zero (Elt F) cc0_stg8_0 (funext fun a => by fin_cases a <;> rfl) _ f

section Label

variable (c : Dev nD) (I : Ins F)

/-- The two buffers the loop touches. -/
def held (g : Buf (Elt F) (((c : Dev nD) : Thread nD τ).loc cc0_stg8_0)) : sProp 𝕄 :=
  iprop((((c : Thread nD τ).loc cc0_stg0_0) ↦{fullShare} (I.pk : Buf (Elt F) (((c : Dev nD) : Thread nD τ).loc cc0_stg0_0)))
    ∗ (((c : Thread nD τ).loc cc0_stg8_0) ↦{fullShare} g))

/-- The loop with `k` trips to go from position `r` and match array `g`. -/
def spec (k : ℕ) (r : BitVec 32) (g : IVec S157x128 32) : sWPT 𝕄 (BitVec 32) := do
  sWPT.consume (held c I g)
  let x ← sWPT.arbitrary
  sWPT.produce (held c I (kRun I k r g))
  pure x

theorem spec_apply (k : ℕ) (r : BitVec 32) (g : IVec S157x128 32) (K : BitVec 32 → sProp 𝕄) :
    spec c I k r g K = iprop(held c I g ∗ ∀ x : BitVec 32, (held c I (kRun I k r g) -∗ K x)) := rfl

theorem spec_le (E : Set ℕ) :
    ∀ k r g, Halts I k r g → ∀ K, spec c I k r g K
      ⊢ wp frame (wpE (defs₀ (F := F)) 𝒱₀ (c : Thread nD τ) (some k)) E
          (defs₀ (F := F) .tc 1 ⟨Memref.whole cc0_stg0_0, Memref.isWhole_whole _, I.b0, I.b1, I.b2, I.b3, I.ar,
            Memref.whole cc0_stg8_0, Memref.isWhole_whole _, I.thr, Scalar.ofBits .f32 0x469D0000#32, k0_pay8, r⟩) K := by
  intro k
  induction k with
  | zero =>
    intro r g hh K
    rw [spec_apply]
    show _ ⊢ wp frame (wpE (defs₀ (F := F)) 𝒱₀ (c : Thread nD τ) (some 0)) E
      (cc0_while1 (Memref.whole cc0_stg0_0) (Memref.isWhole_whole _) I.b0 I.b1 I.b2 I.b3 I.ar
            (Memref.whole cc0_stg8_0) (Memref.isWhole_whole _) I.thr (Scalar.ofBits .f32 0x469D0000#32) k0_pay8 r) K
    simp only [cc0_while1_eq_skeleton]; unfold cc0_while1_skel
    have htest : ¬Scalar.cmpi .slt r 20096#32 = 1#1 := hh
    simp only [htest, ↓reduceIte, Prog.pure_eq_ret]
    iintro ⟨H, Hk⟩
    rw [wp_ret]; imodintro
    iapply Hk
    simp only [kRun]; iexact H
  | succ k ih =>
    intro r g hh K
    obtain ⟨htest, hchk, hrest⟩ := hh
    rw [spec_apply]
    show _ ⊢ wp frame (wpE (defs₀ (F := F)) 𝒱₀ (c : Thread nD τ) (some (k + 1))) E
      (cc0_while1 (Memref.whole cc0_stg0_0) (Memref.isWhole_whole _) I.b0 I.b1 I.b2 I.b3 I.ar
            (Memref.whole cc0_stg8_0) (Memref.isWhole_whole _) I.thr (Scalar.ofBits .f32 0x469D0000#32) k0_pay8 r) K
    simp only [cc0_while1_eq_skeleton]; unfold cc0_while1_skel
    simp only [htest, ↓reduceIte, k0_part2_eq_skeleton]; unfold k0_part2_skel
    simp only [smemLoad, smemLoadElt, Prog.lift, Prog.bind_op, Prog.bind_ret, Prog.pure_eq_ret]
    unfold held
    iintro ⟨⟨Hp, Hg⟩, Hk⟩
    iapply (wp_assume 𝒱₀ (c : Thread nD τ) (some (k + 1)) E hchk)
    iapply (wp_load_rect 𝒱₀ (c : Thread nD τ) (some (k + 1)) E (m := Memref.whole cc0_stg0_0)
      (r := Rect.unit (s := S80384) (k0_off1 r) S1.size (k0_off1_inb r hchk)) (Finset.subset_univ _)) $$ Hp; iintro Hp
    iapply (wp_load_rect 𝒱₀ (c : Thread nD τ) (some (k + 1)) E (m := Memref.whole cc0_stg0_0)
      (r := Rect.unit (s := S80384) (k0_off2 r 1#32) S1.size (k0_off2_inb r hchk 0)) (Finset.subset_univ _)) $$ Hp; iintro Hp
    iapply (wp_load_rect 𝒱₀ (c : Thread nD τ) (some (k + 1)) E (m := Memref.whole cc0_stg0_0)
      (r := Rect.unit (s := S80384) (k0_off2 r 2#32) S1.size (k0_off2_inb r hchk 1)) (Finset.subset_univ _)) $$ Hp; iintro Hp
    iapply (wp_load_rect 𝒱₀ (c : Thread nD τ) (some (k + 1)) E (m := Memref.whole cc0_stg0_0)
      (r := Rect.unit (s := S80384) (k0_off2 r 3#32) S1.size (k0_off2_inb r hchk 2)) (Finset.subset_univ _)) $$ Hp; iintro Hp
    iapply (wp_load 𝒱₀ (c : Thread nD τ) (some (k + 1)) E (m := Memref.whole cc0_stg8_0) (Finset.subset_univ _)) $$ Hg; iintro Hg
    iapply (wp_load 𝒱₀ (c : Thread nD τ) (some (k + 1)) E (m := Memref.whole cc0_stg8_0) (Finset.subset_univ _)) $$ Hg; iintro Hg
    iapply (wp_store 𝒱₀ (c : Thread nD τ) (some (k + 1)) E (m := Memref.whole cc0_stg8_0)
      (r := Rect.unit (s := S157x128) ![0, 0] S157x128.size inb_S157x128_S157x128_0_0) (Mk := Finset.univ) (Finset.subset_univ _)) $$ Hg; iintro Hg
    rw [read_whole, write_whole]
    iapply (wp_call_spec 𝒱₀ (c : Thread nD τ) (some (k + 1)) E (spec c I k (kNext F (kStep I r hchk g)) (kStep I r hchk g)) k
      (fun u hu => by cases hu; exact Nat.lt_succ_self k)
      (ih _ _ hrest))
    rw [spec_apply]; unfold held
    isplitl [Hp Hg]
    · isplitl [Hp]; · iexact Hp
      iexact Hg
    iintro %x ⟨Hp, Hg⟩
    rw [wp_ret]; imodintro
    iapply Hk
    rw [kRun_succ I k r hchk g]
    isplitl [Hp]; · iexact Hp
    iexact Hg

end Label

/-! ## The pipeline's proof data -/

section Body

variable (V : Dev nD → Valuation τ sig (Elt F))

/-- What the kernel is entered with, out of the arrays' contents when the kernel is launched. -/
def ins (c : Dev nD) : Ins F where
  pk := (win0_0.blk t0_0).view.read (Elt F) (V c (Proc.devRef .tc main_v47))
  b0 := k0_pay3 ((win0_1.blk t0_0).view.read (Elt F) (V c (Proc.devRef .tc main_v28)))
  b1 := k0_pay4 ((win0_2.blk t0_0).view.read (Elt F) (V c (Proc.devRef .tc main_v32)))
  b2 := k0_pay5 ((win0_3.blk t0_0).view.read (Elt F) (V c (Proc.devRef .tc main_v36)))
  b3 := k0_pay6 ((win0_4.blk t0_0).view.read (Elt F) (V c (Proc.devRef .tc main_v40)))
  ar := k0_pay7 ((win0_5.blk t0_0).view.read (Elt F) (V c (Proc.devRef .tc main_v43)))
  thr := ((Memref.whole cc0_stg7_0).access (Rect.unit (s := S1x2) ![0, 0] S1x1.size inb_S1x2_S1x1_0_0) : View sig .tc _ _ _).read (Elt F)
    ((win0_7.blk t0_0).view.read (Elt F) (V c (Proc.devRef .tc main_v6))) (Shape.Idx.first (numel1_S1x1.symm ▸ Nat.one_pos))

/-- The match array the kernel starts from. -/
def g₀ (c : Dev nD) : IVec S157x128 32 :=
  k0_pay9 (((Memref.whole cc0_stg7_0).access (Rect.unit (s := S1x2) ![0, 1] S1x1.size inb_S1x2_S1x1_0_1) : View sig .tc _ _ _).read (Elt F)
    ((win0_7.blk t0_0).view.read (Elt F) (V c (Proc.devRef .tc main_v6))) (Shape.Idx.first (numel1_S1x1.symm ▸ Nat.one_pos)))
    ((win0_6.blk t0_0).view.read (Elt F) (V c (Proc.devRef .tc main_v45)))

/-- The position the loop is entered at. -/
def r₀ (c : Dev nD) : BitVec 32 := Scalar.fptosi 32 (k0_pay1 (F := F) (k0_pay10 (g₀ V c)))

variable (kk : Dev nD → ℕ)

/-- The pipeline's proof data: inputs as they were, the match array after the loop's trips. -/
def dats (_ : Fin 1) (c : Dev nD) : Dat τ (Elt F) Unit ℕ (UR sig nD τ) ℕ (cfg0 (F := F)) c where
  A w := V c (Proc.devRef .tc (Pipeline.arrRef spec0 w))
  after w _ := match w with
    | ⟨0, _⟩ => (win0_0.blk t0_0).view.read (Elt F) (V c (Proc.devRef .tc main_v47))
    | ⟨1, _⟩ => (win0_1.blk t0_0).view.read (Elt F) (V c (Proc.devRef .tc main_v28))
    | ⟨2, _⟩ => (win0_2.blk t0_0).view.read (Elt F) (V c (Proc.devRef .tc main_v32))
    | ⟨3, _⟩ => (win0_3.blk t0_0).view.read (Elt F) (V c (Proc.devRef .tc main_v36))
    | ⟨4, _⟩ => (win0_4.blk t0_0).view.read (Elt F) (V c (Proc.devRef .tc main_v40))
    | ⟨5, _⟩ => (win0_5.blk t0_0).view.read (Elt F) (V c (Proc.devRef .tc main_v43))
    | ⟨6, _⟩ => (win0_6.blk t0_0).view.read (Elt F) (V c (Proc.devRef .tc main_v45))
    | ⟨7, _⟩ => (win0_7.blk t0_0).view.read (Elt F) (V c (Proc.devRef .tc main_v6))
    | ⟨8, _⟩ => kRun (ins V c) (kk c) (r₀ V c) (g₀ V c)
  Φ _ := ΦA spec0 c
  q _ := fullShare
  owed _ := 0

theorem bigSep_W (Φ : Fin (cfg0 (F := F)).W → sProp 𝕄) :
    bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_W0 Φ

theorem owns_whole_eq (c : Dev nD) (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((dats V kk 0 c).Φ t0_0.castSucc ∗ (dats V kk 0 c).owesAt () t0_0.castSucc
    ∗ (∃ d, stg c cc0_stg0_0 ((dats V kk 0 c).before (0 : Fin 9) t0_0 d))
    ∗ (∃ d, stg c cc0_stg1_0 ((dats V kk 0 c).before (1 : Fin 9) t0_0 d))
    ∗ (∃ d, stg c cc0_stg2_0 ((dats V kk 0 c).before (2 : Fin 9) t0_0 d))
    ∗ (∃ d, stg c cc0_stg3_0 ((dats V kk 0 c).before (3 : Fin 9) t0_0 d))
    ∗ (∃ d, stg c cc0_stg4_0 ((dats V kk 0 c).before (4 : Fin 9) t0_0 d))
    ∗ (∃ d, stg c cc0_stg5_0 ((dats V kk 0 c).before (5 : Fin 9) t0_0 d))
    ∗ (∃ d, stg c cc0_stg6_0 ((dats V kk 0 c).before (6 : Fin 9) t0_0 d))
    ∗ (∃ d, stg c cc0_stg7_0 ((dats V kk 0 c).before (7 : Fin 9) t0_0 d))
    ∗ (∃ d, stg c cc0_stg8_0 ((dats V kk 0 c).before (8 : Fin 9) t0_0 d)))

def bodyPost (c : Dev nD) : sProp 𝕄 :=
  iprop((dats V kk 0 c).Φ t0_0.succ ∗ (dats V kk 0 c).owesAt () t0_0.succ
    ∗ stg c cc0_stg0_0 ((dats V kk 0 c).after (0 : Fin 9) t0_0)
    ∗ stg c cc0_stg1_0 ((dats V kk 0 c).after (1 : Fin 9) t0_0)
    ∗ stg c cc0_stg2_0 ((dats V kk 0 c).after (2 : Fin 9) t0_0)
    ∗ stg c cc0_stg3_0 ((dats V kk 0 c).after (3 : Fin 9) t0_0)
    ∗ stg c cc0_stg4_0 ((dats V kk 0 c).after (4 : Fin 9) t0_0)
    ∗ stg c cc0_stg5_0 ((dats V kk 0 c).after (5 : Fin 9) t0_0)
    ∗ stg c cc0_stg6_0 ((dats V kk 0 c).after (6 : Fin 9) t0_0)
    ∗ stg c cc0_stg7_0 ((dats V kk 0 c).after (7 : Fin 9) t0_0)
    ∗ stg c cc0_stg8_0 ((dats V kk 0 c).after (8 : Fin 9) t0_0))

/-- A whole vector buffer of 157 by 128 words loaded whole is its contents. -/
theorem read_stg1 (f : (cc0_stg1_0 : Ref sig .tc).ty.Contents (Elt F)) :
    (Memref.whole cc0_stg1_0 : Memref sig .tc _ _ _).view.readAt (Elt F)
      (Rect.unit (s := S157x128) ![0, 0] S157x128.size inb_S157x128_S157x128_0_0).toLoadRect f = f :=
  Memref.readAt_unit_zero (Elt F) cc0_stg1_0 (funext fun a => by fin_cases a <;> rfl) _ f
theorem read_stg2 (f : (cc0_stg2_0 : Ref sig .tc).ty.Contents (Elt F)) :
    (Memref.whole cc0_stg2_0 : Memref sig .tc _ _ _).view.readAt (Elt F)
      (Rect.unit (s := S157x128) ![0, 0] S157x128.size inb_S157x128_S157x128_0_0).toLoadRect f = f :=
  Memref.readAt_unit_zero (Elt F) cc0_stg2_0 (funext fun a => by fin_cases a <;> rfl) _ f
theorem read_stg3 (f : (cc0_stg3_0 : Ref sig .tc).ty.Contents (Elt F)) :
    (Memref.whole cc0_stg3_0 : Memref sig .tc _ _ _).view.readAt (Elt F)
      (Rect.unit (s := S157x128) ![0, 0] S157x128.size inb_S157x128_S157x128_0_0).toLoadRect f = f :=
  Memref.readAt_unit_zero (Elt F) cc0_stg3_0 (funext fun a => by fin_cases a <;> rfl) _ f
theorem read_stg4 (f : (cc0_stg4_0 : Ref sig .tc).ty.Contents (Elt F)) :
    (Memref.whole cc0_stg4_0 : Memref sig .tc _ _ _).view.readAt (Elt F)
      (Rect.unit (s := S157x128) ![0, 0] S157x128.size inb_S157x128_S157x128_0_0).toLoadRect f = f :=
  Memref.readAt_unit_zero (Elt F) cc0_stg4_0 (funext fun a => by fin_cases a <;> rfl) _ f
theorem read_stg5 (f : (cc0_stg5_0 : Ref sig .tc).ty.Contents (Elt F)) :
    (Memref.whole cc0_stg5_0 : Memref sig .tc _ _ _).view.readAt (Elt F)
      (Rect.unit (s := S157x128) ![0, 0] S157x128.size inb_S157x128_S157x128_0_0).toLoadRect f = f :=
  Memref.readAt_unit_zero (Elt F) cc0_stg5_0 (funext fun a => by fin_cases a <;> rfl) _ f
theorem read_stg6 (f : (cc0_stg6_0 : Ref sig .tc).ty.Contents (Elt F)) :
    (Memref.whole cc0_stg6_0 : Memref sig .tc _ _ _).view.readAt (Elt F)
      (Rect.unit (s := S157x128) ![0, 0] S157x128.size inb_S157x128_S157x128_0_0).toLoadRect f = f :=
  Memref.readAt_unit_zero (Elt F) cc0_stg6_0 (funext fun a => by fin_cases a <;> rfl) _ f

set_option maxHeartbeats 4000000 in
theorem sound_body (c : Dev nD) (hk : Halts (ins V c) (kk c) (r₀ V c) (g₀ V c)) (K : PUnit → sProp 𝕄) :
    iprop(bodyPre V kk c ∗ (bodyPost V kk c -∗ K ⟨⟩))
      ⊢ wp frame (wpE (defs₀ (F := F)) 𝒱₀ c none) Set.univ
          (cc0__nms_match_kernel (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _)) K := by
  simp only [cc0__nms_match_kernel_eq_skeleton]; unfold cc0__nms_match_kernel_skel
  simp only [k0_part1_eq_skeleton]; unfold k0_part1_skel
  simp only [smemLoad, smemLoadElt, Prog.lift, Prog.bind_op, Prog.bind_ret, Prog.pure_eq_ret]
  unfold bodyPre
  iintro ⟨⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩, Hk⟩
  have h0 : f0 = (dats V kk 0 c).after (0 : Fin 9) t0_0 := hf0
  have h1 : f1 = (dats V kk 0 c).after (1 : Fin 9) t0_0 := hf1
  have h2 : f2 = (dats V kk 0 c).after (2 : Fin 9) t0_0 := hf2
  have h3 : f3 = (dats V kk 0 c).after (3 : Fin 9) t0_0 := hf3
  have h4 : f4 = (dats V kk 0 c).after (4 : Fin 9) t0_0 := hf4
  have h5 : f5 = (dats V kk 0 c).after (5 : Fin 9) t0_0 := hf5
  have h6 : f6 = (dats V kk 0 c).after (6 : Fin 9) t0_0 := hf6
  have h7 : f7 = (dats V kk 0 c).after (7 : Fin 9) t0_0 := hf7
  clear hf0 hf1 hf2 hf3 hf4 hf5 hf6 hf7 hf8
  iapply (wp_load_rect 𝒱₀ (c : Thread nD τ) none Set.univ (m := Memref.whole cc0_stg7_0)
    (r := Rect.unit (s := S1x2) ![0, 0] S1x1.size inb_S1x2_S1x1_0_0) (Finset.subset_univ _)) $$ H7; iintro H7
  iapply (wp_load_rect 𝒱₀ (c : Thread nD τ) none Set.univ (m := Memref.whole cc0_stg7_0)
    (r := Rect.unit (s := S1x2) ![0, 1] S1x1.size inb_S1x2_S1x1_0_1) (Finset.subset_univ _)) $$ H7; iintro H7
  iapply (wp_load 𝒱₀ (c : Thread nD τ) none Set.univ (m := Memref.whole cc0_stg1_0) (Finset.subset_univ _)) $$ H1; iintro H1
  iapply (wp_load 𝒱₀ (c : Thread nD τ) none Set.univ (m := Memref.whole cc0_stg2_0) (Finset.subset_univ _)) $$ H2; iintro H2
  iapply (wp_load 𝒱₀ (c : Thread nD τ) none Set.univ (m := Memref.whole cc0_stg3_0) (Finset.subset_univ _)) $$ H3; iintro H3
  iapply (wp_load 𝒱₀ (c : Thread nD τ) none Set.univ (m := Memref.whole cc0_stg4_0) (Finset.subset_univ _)) $$ H4; iintro H4
  iapply (wp_load 𝒱₀ (c : Thread nD τ) none Set.univ (m := Memref.whole cc0_stg5_0) (Finset.subset_univ _)) $$ H5; iintro H5
  iapply (wp_load 𝒱₀ (c : Thread nD τ) none Set.univ (m := Memref.whole cc0_stg6_0) (Finset.subset_univ _)) $$ H6; iintro H6
  iapply (wp_load 𝒱₀ (c : Thread nD τ) none Set.univ (m := Memref.whole cc0_stg8_0) (Finset.subset_univ _)) $$ H8; iintro H8
  iapply (wp_store 𝒱₀ (c : Thread nD τ) none Set.univ (m := Memref.whole cc0_stg8_0)
    (r := Rect.unit (s := S157x128) ![0, 0] S157x128.size inb_S157x128_S157x128_0_0) (Mk := Finset.univ) (Finset.subset_univ _)) $$ H8; iintro H8
  iapply (wp_load 𝒱₀ (c : Thread nD τ) none Set.univ (m := Memref.whole cc0_stg8_0) (Finset.subset_univ _)) $$ H8; iintro H8
  rw [write_whole, read_whole, read_stg1, read_stg2, read_stg3, read_stg4, read_stg5, read_stg6]
  subst h0 h1 h2 h3 h4 h5 h6 h7
  iapply (wp_call_spec 𝒱₀ (c : Thread nD τ) none Set.univ (spec c (ins V c) (kk c) (r₀ V c) (g₀ V c))
    (kk c) (fun u hu => nomatch hu) (spec_le c (ins V c) Set.univ (kk c) (r₀ V c) (g₀ V c) hk))
  rw [spec_apply]; unfold held
  isplitl [H0 H8]
  · isplitl [H0]; · iexact H0
    iexact H8
  iintro %x ⟨H0, H8⟩
  rw [wp_ret]; imodintro
  iapply Hk
  unfold bodyPost
  rw [show (dats V kk 0 c).Φ t0_0.succ = (dats V kk 0 c).Φ t0_0.castSucc from rfl,
    show (dats V kk 0 c).owesAt () t0_0.succ = (dats V kk 0 c).owesAt () t0_0.castSucc from rfl]
  isplitl [HΦ]; · iexact HΦ
  isplitl [Howes]; · iexact Howes
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  isplitl [H5]
  · iexists _; isplitr; · (ipureintro; rfl)
    iexact H5
  isplitl [H6]
  · iexists _; isplitr; · (ipureintro; rfl)
    iexact H6
  isplitl [H7]
  · iexists _; isplitr; · (ipureintro; rfl)
    iexact H7
  iexists _; isplitr; swap; · iexact H8
  ipureintro; rfl

theorem body_obligation (c : Dev nD) (hk : Halts (ins V c) (kk c) (r₀ V c) (g₀ V c)) :
    BodyObligation (dats V kk 0 c) (defs₀ (F := F)) 𝒱₀ () Set.univ := fun t => by
  rw [fin_N0 t]
  rw [bigSep_W, bigSep_W]
  sl_whnfR [defs₀, Defs.onTc]
  simp only [owns_whole_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl,
    show stage0_4 0 = Memref.whole cc0_stg4_0 from rfl, show stage0_5 0 = Memref.whole cc0_stg5_0 from rfl,
    show stage0_6 0 = Memref.whole cc0_stg6_0 from rfl, show stage0_7 0 = Memref.whole cc0_stg7_0 from rfl,
    show stage0_8 0 = Memref.whole cc0_stg8_0 from rfl]
  iintro H
  iapply (sound_body V kk c hk fun _ => bodyPost V kk c)
  unfold bodyPre
  isplitl [H]; · iexact H
  iintro H; iexact H

end Body

end Cert.Proof.K

end
-- ==== Proof.NextIndex.lean ====
/-
  The next position. The kernel keeps positions as f32 words, replaces the position of a matched box by 20096 and takes
  the minimum. This file says when that is the least unmatched position (`NatWords`: what the f32 operations must do on
  naturals up to 20096, with the ideal values as an instance) and states the result as a natural (`firstUn`).
-/
module

public import proofs.«01_k».proof.Proof.KernelBody
public import Idealize.ShloMosaic.PureOps.Reduce
public import Idealize.ShloMosaic.PureOps.Ideal.Laws

@[expose] public section

noncomputable section

namespace Cert.Proof.K

open Cert.KernelIdeal Cert.KernelIdeal.Gen
open Idealize.ShloMosaic

/-! ## Positions -/

/-- The position of an entry of the match array. -/
def pos (x : S157x128.Idx) : ℕ := (x 0).val * 128 + (x 1).val

theorem pos_lt (x : S157x128.Idx) : pos x < 20096 := by
  have h0 : (x 0).val < 157 := (x 0).isLt
  have h1 : (x 1).val < 128 := (x 1).isLt
  unfold pos; omega

/-- The entry at a position. -/
def at' (p : ℕ) (hp : p < 20096) : S157x128.Idx := fun a => match a with
  | ⟨0, _⟩ => ⟨p / 128, show p / 128 < 157 by omega⟩
  | ⟨1, _⟩ => ⟨p % 128, show p % 128 < 128 by omega⟩

@[simp] theorem pos_at' (p : ℕ) (hp : p < 20096) : pos (at' p hp) = p := by
  show p / 128 * 128 + p % 128 = p
  omega

theorem pos_inj {x y : S157x128.Idx} (h : pos x = pos y) : x = y := by
  have h0 : (x 1).val < 128 := (x 1).isLt
  have h1 : (y 1).val < 128 := (y 1).isLt
  unfold pos at h
  funext a
  match a with
  | ⟨0, _⟩ => exact Fin.ext (show (x 0).val = (y 0).val by omega)
  | ⟨1, _⟩ => exact Fin.ext (show (x 1).val = (y 1).val by omega)

@[simp] theorem at'_pos (x : S157x128.Idx) : at' (pos x) (pos_lt x) = x := pos_inj (pos_at' _ _)

/-! ## The least unmatched position -/

/-- The least position whose entry is −1, or 20096. -/
def firstUn (g : IVec S157x128 32) : ℕ :=
  Finset.univ.fold min 20096 fun x : S157x128.Idx => if g x = 4294967295#32 then pos x else 20096

theorem fold_min_le {ι : Type} [DecidableEq ι] (s : Finset ι) (f : ι → ℕ) (z : ℕ) (i : ι) (hi : i ∈ s) : s.fold min z f ≤ f i :=
  ((Finset.le_fold_min (f := f) (b := z) (s := s) (s.fold min z f)).1 le_rfl).2 i hi

theorem fold_min_equiv {ι κ : Type} [Fintype ι] [Fintype κ] (e : ι ≃ κ) (q : κ → ℕ) (z : ℕ) :
    Finset.univ.fold min z (fun i => q (e i)) = Finset.univ.fold min z q := by
  rw [← Finset.map_univ_equiv e, Finset.fold_map]; rfl

theorem unPos_le (g : IVec S157x128 32) (x : S157x128.Idx) : (if g x = 4294967295#32 then pos x else 20096) ≤ 20096 := by
  have := pos_lt x
  split <;> omega

theorem firstUn_le (g : IVec S157x128 32) : firstUn g ≤ 20096 :=
  ((Finset.le_fold_min (f := _) (b := 20096) (s := Finset.univ) (firstUn g)).1 le_rfl).1

theorem firstUn_le_of (g : IVec S157x128 32) (x : S157x128.Idx) (hx : g x = 4294967295#32) : firstUn g ≤ pos x := by
  have h := fold_min_le Finset.univ (fun x : S157x128.Idx => if g x = 4294967295#32 then pos x else 20096) 20096 x (Finset.mem_univ x)
  simp only [if_pos hx] at h
  exact h

theorem firstUn_mem (g : IVec S157x128 32) (h : firstUn g < 20096) : ∃ x, g x = 4294967295#32 ∧ pos x = firstUn g := by
  by_contra hne
  push Not at hne
  have : firstUn g + 1 ≤ firstUn g := by
    refine (Finset.le_fold_min (f := _) (b := 20096) (s := Finset.univ) (firstUn g + 1)).2 ⟨h, fun x _ => ?_⟩
    show firstUn g + 1 ≤ if g x = 4294967295#32 then pos x else 20096
    split
    · next hx => exact Nat.lt_of_le_of_ne (firstUn_le_of g x hx) (fun e => hne x hx e.symm)
    · exact h
  omega

/-! ## What the f32 operations must do on naturals -/

/-- The f32 operations of the position search are the naturals' on `0 … 20096`. -/
structure NatWords (F : FTy → Type) [FloatOps F] where
  nat : ℕ → F .f32
  ofBits : FloatOps.ofBits (F := F) .f32 0x469D0000#32 = nat 20096
  sitofp : ∀ k ≤ 20096, FloatOps.sitofp (F := F) .f32 (BitVec.ofNat 32 k) = nat k
  fptosi : ∀ k ≤ 20096, Scalar.fptosi (F := F) 32 (nat k) = BitVec.ofNat 32 k
  comm : Std.Commutative (FloatOps.minimumf (F := F) (φ := .f32))
  assoc : Std.Associative (FloatOps.minimumf (F := F) (φ := .f32))
  fold : ∀ (s : Finset S1x157x128.Idx), s.Nonempty → ∀ f : S1x157x128.Idx → ℕ, (∀ i, f i ≤ 20096) →
    s.fold (FloatOps.minimumf (F := F) (φ := .f32)) (FloatOps.ofBits .f32 0x7F800000#32) (fun i => nat (f i)) = nat (s.fold min 20096 f)

variable {F : FTy → Type} [FloatOps F]

theorem cmpi_eq_one {w : ℕ} {a b : BitVec w} : IntOp.cmpi .eq a b = 1#1 ↔ a = b := by
  unfold IntOp.cmpi
  by_cases h : a = b
  · simp [h]
  · have : (a == b) = false := by simpa using h
    simp [this, h]

/-- The position words of the kernel. -/
theorem pay8_apply (W : NatWords F) (x : S157x128.Idx) : (k0_pay8 (F := F)) x = W.nat (pos x) := by
  have h : (k0_pay8 (F := F)) x = FloatOps.sitofp .f32 (BitVec.ofNat 32 (pos x)) := by
    unfold k0_pay8
    show FloatOps.sitofp .f32 (IntOp.addi (IntOp.muli (BitVec.ofNat 32 (0 * 157 + (x 0).val)) 128#32) (BitVec.ofNat 32 (0 * 128 + (x 1).val))) = _
    congr 1
    unfold IntOp.addi IntOp.muli pos
    apply BitVec.eq_of_toNat_eq
    simp [BitVec.toNat_add, BitVec.toNat_mul]
  rw [h, W.sitofp _ (pos_lt x).le]

/-- The minimum over the one-block array: the fold over all its entries. -/
theorem min_all (W : NatWords F) (v : FVec F S1x157x128 .f32) (j : S1.Idx) :
    multiReduction .minimumf [1, 2] S1 v 0x7F800000#32 reduces_S1x157x128_S1 (.inl rfl) rfl j
      = Finset.univ.fold (@FloatOps.minimumf F _ .f32) (hc := W.comm) (ha := W.assoc) (FloatOps.ofBits .f32 0x7F800000#32) v := by
  haveI := W.comm
  haveI := W.assoc
  have hs : (Finset.univ.filter fun i : S1x157x128.Idx => reduces_S1x157x128_S1.drop i = j) = Finset.univ := by
    refine Finset.filter_true_of_mem fun i _ => ?_
    funext a
    have ha : ∀ u v : Fin (S1.size a), u = v := by
      intro u v
      have hu := u.isLt
      have hv := v.isLt
      have : S1.size a = 1 := by fin_cases a; rfl
      exact Fin.ext (by omega)
    exact ha _ _
  refine (multiReduction_minimumf_eq_fold ..).trans ?_
  rw [hs]

/-- The word the next position is read from. -/
theorem pay2_eq (W : NatWords F) (g : IVec S157x128 32) :
    k0_pay2 (F := F) (Scalar.ofBits .f32 0x469D0000#32) k0_pay8 g = W.nat (firstUn g) := by
  haveI := W.comm
  haveI := W.assoc
  simp only [k0_pay2, extractAt]
  conv_lhs => unfold shapeCast
  rw [min_all W]
  have hf : (fun j : S1x157x128.Idx => select (cmpi .eq g (broadcast S157x128 4294967295#32)) (k0_pay8 (F := F)) (broadcast S157x128 (Scalar.ofBits (F := F) .f32 0x469D0000#32)) (Shape.reshapeEquiv shapeCasts_S157x128_S1x157x128 j))
      = fun i : S1x157x128.Idx => W.nat ((fun x : S157x128.Idx => if g x = 4294967295#32 then pos x else 20096) (Shape.reshapeEquiv shapeCasts_S157x128_S1x157x128 i)) := by
    funext i
    show (if IntOp.cmpi .eq (g (Shape.reshapeEquiv shapeCasts_S157x128_S1x157x128 i)) 4294967295#32 = 1#1 then (k0_pay8 (F := F)) (Shape.reshapeEquiv shapeCasts_S157x128_S1x157x128 i) else FloatOps.ofBits (F := F) .f32 0x469D0000#32) = _
    rw [pay8_apply W, W.ofBits]
    by_cases h : g (Shape.reshapeEquiv shapeCasts_S157x128_S1x157x128 i) = 4294967295#32
    · rw [if_pos (cmpi_eq_one.2 h)]; simp only [if_pos h]
    · rw [if_neg (fun e => h (cmpi_eq_one.1 e))]; simp only [if_neg h]
  refine (congrArg (fun f => Finset.univ.fold (FloatOps.minimumf (F := F) (φ := .f32)) (FloatOps.ofBits .f32 0x7F800000#32) f) hf).trans ?_
  rw [ W.fold Finset.univ ⟨fun a => ⟨0, by fin_cases a <;> decide⟩, Finset.mem_univ _⟩]
  · exact congrArg W.nat (fold_min_equiv (Shape.reshapeEquiv shapeCasts_S157x128_S1x157x128) (fun x : S157x128.Idx => if g x = 4294967295#32 then pos x else 20096) 20096)
  · intro i
    exact unPos_le g _

/-- The next position is the least unmatched one, -/
theorem kNext_eq (W : NatWords F) (g : IVec S157x128 32) : kNext F g = BitVec.ofNat 32 (firstUn g) := by
  unfold kNext; rw [pay2_eq W, W.fptosi _ (firstUn_le g)]

/-- the first as the later ones. -/
theorem kFirst_eq (W : NatWords F) (g : IVec S157x128 32) :
    Scalar.fptosi 32 (k0_pay1 (F := F) (k0_pay10 g)) = BitVec.ofNat 32 (firstUn g) := by
  rw [← kNext_eq W]
  unfold kNext
  have : k0_pay1 (F := F) (k0_pay10 g) = k0_pay2 (Scalar.ofBits .f32 0x469D0000#32) k0_pay8 g := by
    have hg : shapeCast S157x128 g shapeCasts_S157x128_S157x128 = g := by
      funext x; show g (Shape.reshapeEquiv _ x) = g x; rw [Shape.reshapeEquiv_self]
    unfold k0_pay1 k0_pay10 k0_pay2
    simp only [hg]
  rw [this]

/-! ## The ideal values -/

/-- At the ideal values the f32 operations are the reals'. -/
def idealWords : NatWords Ideal where
  nat k := ((k : ℝ) : EReal)
  ofBits := by
    simp [Ideal.ofBits, Ideal.ieee, -EReal.coe_mul]; norm_num
  sitofp k hk := by
    show (((BitVec.ofNat 32 k).toInt : ℝ) : EReal) = _
    have : (BitVec.ofNat 32 k).toInt = (k : ℤ) := by
      rw [BitVec.toInt_eq_toNat_cond, BitVec.toNat_ofNat, Nat.mod_eq_of_lt (by omega), if_pos (by omega)]
    rw [this]; rfl
  fptosi k hk := by
    show Ideal.fptosi 32 ((k : ℝ) : EReal) = _
    unfold Ideal.fptosi
    rw [Ideal.toIntClamped_coe, if_pos (Nat.cast_nonneg k), Int.floor_natCast]
    have : max (-((2 ^ (32 - 1) : ℕ) : ℤ)) (min (((2 ^ (32 - 1) : ℕ) : ℤ) - 1) (k : ℤ)) = (k : ℤ) := by
      norm_num; omega
    rw [this]
    simp
  comm := inferInstance
  assoc := inferInstance
  fold s hs f hf := by
    have htop : FloatOps.ofBits (F := Ideal) .f32 0x7F800000#32 = (⊤ : EReal) := by simp [Ideal.ofBits, Ideal.ieee]
    rw [htop]
    show s.fold min (⊤ : EReal) (fun i => (((f i : ℕ) : ℝ) : EReal)) = _
    obtain ⟨i0, hi0⟩ := hs
    apply le_antisymm
    · -- the fold of naturals is one of them
      have hmem : s.fold min 20096 f = 20096 ∨ ∃ i ∈ s, f i = s.fold min 20096 f := by
        by_contra hne
        push Not at hne
        have hle := (Finset.le_fold_min (f := f) (b := 20096) (s := s) (s.fold min 20096 f)).1 le_rfl
        have : s.fold min 20096 f + 1 ≤ s.fold min 20096 f :=
          (Finset.le_fold_min (f := f) (b := 20096) (s := s) _).2
            ⟨Nat.lt_of_le_of_ne hle.1 hne.1, fun i hi => Nat.lt_of_le_of_ne (hle.2 i hi) (fun e => hne.2 i hi e.symm)⟩
        omega
      have hE : ∀ i ∈ s, s.fold min (⊤ : EReal) (fun i => (((f i : ℕ) : ℝ) : EReal)) ≤ (((f i : ℕ) : ℝ) : EReal) :=
        fun i hi => ((Finset.le_fold_min (f := _) (b := (⊤ : EReal)) (s := s) _).1 le_rfl).2 i hi
      rcases hmem with h | ⟨i, hi, h⟩
      · rw [h]
        refine (hE i0 hi0).trans ?_
        exact_mod_cast hf i0
      · rw [← h]; exact hE i hi
    · refine (Finset.le_fold_min (f := _) (b := (⊤ : EReal)) (s := s) _).2 ⟨le_top, fun i hi => ?_⟩
      have := fold_min_le s f 20096 i hi
      exact_mod_cast this

end Cert.Proof.K

end
-- ==== Proof.HostOps.lean ====
/-
  The host operations around the kernel, read at an index: the sort's carried iota is a permutation, a gather at a
  permutation's words reads the permuted entry, a scatter at them writes it back.
-/
module

public import proofs.«01_k».proof.Proof.KernelBody
public import Idealize.ShloMosaic.Lib.SortFacts
public import Idealize.ShloMosaic.Lib.ValueIdxCore
public import Idealize.ShloMosaic.Lib.Routing.OpsSet

@[expose] public section

noncomputable section

namespace Cert.Proof

open Idealize.ShloMosaic Idealize.ShloMosaic.ValueIdx

/-! ## Words -/

theorem toInt_word (k : ℕ) (hk : k < 2 ^ 31) : (BitVec.ofNat 32 k).toInt = (k : ℤ) := by
  rw [BitVec.toInt_eq_toNat_cond, BitVec.toNat_ofNat, Nat.mod_eq_of_lt (by omega), if_pos (by omega)]

theorem toNat_word (k : ℕ) (hk : k < 2 ^ 32) : (BitVec.ofNat 32 k).toNat = k := by
  rw [BitVec.toNat_ofNat, Nat.mod_eq_of_lt hk]

theorem word_inj {a b : ℕ} (ha : a < 2 ^ 32) (hb : b < 2 ^ 32) (h : BitVec.ofNat 32 a = BitVec.ofNat 32 b) : a = b := by
  rw [← toNat_word a ha, h, toNat_word b hb]

/-- A position is not negative. -/
theorem not_slt_zero (k : ℕ) (hk : k < 2 ^ 31) : IntOp.cmpi .slt (BitVec.ofNat 32 k) 0#32 = 0#1 := by
  unfold IntOp.cmpi
  have : (BitVec.ofNat 32 k).slt 0#32 = false := by
    rw [BitVec.slt_eq_decide, toInt_word k hk]
    simp
  show BitVec.ofBool ((BitVec.ofNat 32 k).slt 0#32) = 0#1
  rw [this]; rfl

theorem slt_word (a b : ℕ) (ha : a < 2 ^ 31) (hb : b < 2 ^ 31) :
    IntOp.cmpi .slt (BitVec.ofNat 32 a) (BitVec.ofNat 32 b) = if a < b then 1#1 else 0#1 := by
  show BitVec.ofBool ((BitVec.ofNat 32 a).slt (BitVec.ofNat 32 b)) = _
  rw [BitVec.slt_eq_decide, toInt_word a ha, toInt_word b hb]
  by_cases h : a < b <;> simp [h]

theorem sge_zero_word (k : ℕ) (hk : k < 2 ^ 31) : IntOp.cmpi .sge (BitVec.ofNat 32 k) 0#32 = 1#1 := by
  show BitVec.ofBool ((0#32).sle (BitVec.ofNat 32 k)) = 1#1
  rw [BitVec.sle_eq_decide, toInt_word k hk]
  simp

/-! ## The sort -/

/-- The positions of a vector of 20000. -/
abbrev V20000 : Shape := ⟨1, ![20000]⟩

theorem sortedFrom_injective {n : ℕ} (before : Fin n → Fin n → Bool) : Function.Injective (sortedFrom before) := by
  have hnd : (sortPositions n before).Nodup :=
    (perm_stableSort before (List.finRange n)).nodup_iff.2 (List.nodup_finRange n)
  intro a b hab
  have := (List.nodup_iff_injective_get.1 hnd) hab
  simpa [Fin.ext_iff] using this

theorem sort_iota_perm {α : Type} (cmp : α × BitVec 32 → α × BitVec 32 → BitVec 1) (x : V20000.Idx → α) :
    ∃ σ : Equiv.Perm (Fin 20000), ∀ k : Fin 20000,
      (Host.sort2 V20000 0 cmp x (iotaInDim V20000 32 0)).2 (ix1 k) = BitVec.ofNat 32 (σ k).val := by
  have hd : 0 < V20000.rank := Nat.zero_lt_one
  let before : Fin 20000 → Fin 20000 → Bool := fun k k' =>
    cmp (x (ix1 k), BitVec.ofNat 32 k.val) (x (ix1 k'), BitVec.ofNat 32 k'.val) == 1#1
  have e : ∀ (j : V20000.Idx) (c : Fin 20000), j.along (⟨0, hd⟩ : Fin V20000.rank) c = ix1 c := by
    intro j c
    funext a
    match a with
    | ⟨0, _⟩ => exact Function.update_self (f := j) _ _
  refine ⟨Equiv.ofBijective _ (Finite.injective_iff_bijective.1 (sortedFrom_injective before)), fun k => ?_⟩
  unfold Host.sort2
  rw [dif_pos hd]
  have hbefore : (fun a b : Fin 20000 => cmp (x ((ix1 k : V20000.Idx).along ⟨0, hd⟩ a), iotaInDim V20000 32 0 ((ix1 k : V20000.Idx).along ⟨0, hd⟩ a))
      (x ((ix1 k : V20000.Idx).along ⟨0, hd⟩ b), iotaInDim V20000 32 0 ((ix1 k : V20000.Idx).along ⟨0, hd⟩ b)) == 1#1) = before := by
    funext a b
    rw [e, e]
    rfl
  show iotaInDim V20000 32 0 ((ix1 k : V20000.Idx).along ⟨0, hd⟩ (sortedFrom (n := 20000) (fun a b : Fin 20000 => cmp (x ((ix1 k : V20000.Idx).along ⟨0, hd⟩ a), iotaInDim V20000 32 0 ((ix1 k : V20000.Idx).along ⟨0, hd⟩ a))
      (x ((ix1 k : V20000.Idx).along ⟨0, hd⟩ b), iotaInDim V20000 32 0 ((ix1 k : V20000.Idx).along ⟨0, hd⟩ b)) == 1#1) k)) = _
  rw [hbefore, e]
  rfl

/-! ## Gathers of single entries and of rows -/

section Gather
variable {α : Type} {N M C : ℕ}

theorem gather_entries (d : GatherDims ⟨1, ![N]⟩ ⟨2, ![M, 1]⟩ ⟨1, ![M]⟩) (wf : _)
    (hd : d = { offsetDims := [], collapsedSliceDims := [0], operandBatchingDims := [], startIndicesBatchingDims := [], startIndexMap := [0], indexVectorDim := 1, sliceSizes := ![1], wf := wf })
    (x : (⟨1, ![N]⟩ : Shape).Idx → α) (idx : IVec ⟨2, ![M, 1]⟩ 32) (j : Fin M) (p : ℕ) (hp : p < N) (hN : N ≤ 2 ^ 31)
    (hi : idx (ix2 j 0) = BitVec.ofNat 32 p) : Host.gather d x idx (ix1 j) = x (ix1 ⟨p, hp⟩) := by
  subst hd
  unfold Host.gather
  congr 1
  funext a
  obtain rfl : a = 0 := Subsingleton.elim _ _
  refine Fin.ext ?_
  generalize hD : (GatherDims.mk (s := ⟨1, ![N]⟩) (si := ⟨2, ![M, 1]⟩) (t := ⟨1, ![M]⟩) [] [0] [] [] [0] 1 ![1] wf) = D
  show D.start (ix1 j) idx 0 + D.batchCoord (ix1 j) 0 + D.offCoord (ix1 j) 0 = p
  rw [GatherDims.batchCoord_eq_zero _ _ _ (by subst hD; exact List.not_mem_nil),
    GatherDims.offCoord_eq_zero _ _ _ (fun h => ((GatherDims.mem_sKept _ _).mp h).1 (by subst hD; exact List.mem_singleton.mpr rfl))]
  simp only [Nat.add_zero]
  unfold GatherDims.start
  rw [dif_pos (show (0 : Fin 1) ∈ D.startIndexMap from by subst hD; exact List.mem_singleton.mpr rfl)]
  have hsi : ∀ h, D.siIdx (ix1 j) ⟨List.idxOf (0 : Fin 1) D.startIndexMap, h⟩ = ix2 j 0 := by
    intro h
    subst hD
    funext b; refine Fin.ext ?_
    match b with
    | ⟨0, _⟩ => rfl
    | ⟨1, _⟩ => rfl
  rw [hsi, hi, toInt_word p (by omega)]
  subst hD
  show min ((p : ℤ).toNat) (N - 1) = p
  rw [Int.toNat_natCast]
  omega

theorem gather_rows (d : GatherDims ⟨2, ![N, C]⟩ ⟨2, ![M, 1]⟩ ⟨2, ![M, C]⟩) (wf : _)
    (hd : d = { offsetDims := [1], collapsedSliceDims := [0], operandBatchingDims := [], startIndicesBatchingDims := [], startIndexMap := [0], indexVectorDim := 1, sliceSizes := ![1, C], wf := wf })
    (x : (⟨2, ![N, C]⟩ : Shape).Idx → α) (idx : IVec ⟨2, ![M, 1]⟩ 32) (j : Fin M) (c : Fin C) (p : ℕ) (hp : p < N) (hN : N ≤ 2 ^ 31)
    (hi : idx (ix2 j 0) = BitVec.ofNat 32 p) : Host.gather d x idx (ix2 j c) = x (ix2 ⟨p, hp⟩ c) := by
  subst hd
  unfold Host.gather
  congr 1
  generalize hD : (GatherDims.mk (s := ⟨2, ![N, C]⟩) (si := ⟨2, ![M, 1]⟩) (t := ⟨2, ![M, C]⟩) [1] [0] [] [] [0] 1 ![1, C] wf) = D
  funext a
  refine Fin.ext ?_
  show D.start (ix2 j c) idx a + D.batchCoord (ix2 j c) a + D.offCoord (ix2 j c) a = _
  rw [GatherDims.batchCoord_eq_zero _ _ _ (by subst hD; exact List.not_mem_nil)]
  match a with
  | ⟨0, _⟩ =>
    rw [GatherDims.offCoord_eq_zero _ _ _ (fun h => ((GatherDims.mem_sKept _ _).mp h).1 (by subst hD; exact List.mem_singleton.mpr rfl))]
    simp only [Nat.add_zero]
    unfold GatherDims.start
    rw [dif_pos (show (⟨0, by decide⟩ : Fin 2) ∈ D.startIndexMap from by subst hD; exact List.mem_singleton.mpr rfl)]
    have hsi : ∀ h, D.siIdx (ix2 j c) ⟨List.idxOf (⟨0, by decide⟩ : Fin 2) D.startIndexMap, h⟩ = ix2 j 0 := by
      intro h
      subst hD
      funext b; refine Fin.ext ?_
      match b with
      | ⟨0, _⟩ => rfl
      | ⟨1, _⟩ => rfl
    rw [hsi, hi, toInt_word p (by omega)]
    subst hD
    show min ((p : ℤ).toNat) (N - 1) = p
    rw [Int.toNat_natCast]
    omega
  | ⟨1, _⟩ =>
    unfold GatherDims.start
    rw [dif_neg (show ¬ (⟨1, by decide⟩ : Fin 2) ∈ D.startIndexMap from by subst hD; exact fun h => absurd (congrArg Fin.val (List.mem_singleton.mp h)) (by decide : (1 : ℕ) ≠ 0))]
    subst hD
    show 0 + 0 + _ = c.val
    rw [Nat.zero_add]
    rfl

end Gather

end Cert.Proof

end
-- ==== Proof.Scan.lean ====
/-
  The matching as a scan. `scan ov g n` is the match array after the positions below `n` were visited in order, a position
  taking the unmatched entries that it overlaps exactly when it is still unmatched itself. The kernel visits only the
  unmatched positions; this file shows that its loop ends and leaves what the scan over all positions leaves, when every
  position that starts unmatched overlaps itself.
-/
module

public import proofs.«01_k».proof.Proof.NextIndex
public import proofs.«01_k».proof.Proof.HostOps

@[expose] public section

noncomputable section

namespace Cert.Proof

open Cert.KernelIdeal Cert.KernelIdeal.Gen
open Idealize.ShloMosaic
open Cert.Proof.K

/-- The visit of position `p`: the unmatched entries that `p` overlaps become `p`. -/
def visit (ov : ℕ → S157x128.Idx → Prop) [∀ p x, Decidable (ov p x)] (p : ℕ) (g : IVec S157x128 32) : IVec S157x128 32 :=
  fun x => if g x = 4294967295#32 ∧ ov p x then BitVec.ofNat 32 p else g x

/-- Whether position `n` is unmatched. -/
def openAt (g : IVec S157x128 32) (n : ℕ) : Prop := ∃ h : n < 20096, g (at' n h) = 4294967295#32

instance (g : IVec S157x128 32) (n : ℕ) : Decidable (openAt g n) := by unfold openAt; infer_instance

/-- The match array after the positions below `n`. -/
def scan (ov : ℕ → S157x128.Idx → Prop) [∀ p x, Decidable (ov p x)] (g : IVec S157x128 32) : ℕ → IVec S157x128 32
  | 0 => g
  | n + 1 => if openAt (scan ov g n) n then visit ov n (scan ov g n) else scan ov g n

variable (ov : ℕ → S157x128.Idx → Prop) [∀ p x, Decidable (ov p x)] (g : IVec S157x128 32)

theorem pos_word_ne (p : ℕ) (hp : p < 20096) : BitVec.ofNat 32 p ≠ 4294967295#32 := fun h => by
  have := word_inj (a := p) (b := 4294967295) (by omega) (by norm_num) h
  omega

/-- An entry that is unmatched after the scan was so before, -/
theorem scan_open (n : ℕ) (hn : n ≤ 20096) (x : S157x128.Idx) (h : scan ov g n x = 4294967295#32) : g x = 4294967295#32 := by
  induction n with
  | zero => exact h
  | succ n ih =>
    refine ih (by omega) ?_
    rw [scan] at h
    split at h
    · unfold visit at h
      split at h
      · exact absurd h (pos_word_ne n (by omega))
      · exact h
    · exact h

/-- and was not visited, -/
theorem scan_pos (hself : ∀ x, g x = 4294967295#32 → ov (pos x) x) (n : ℕ) (hn : n ≤ 20096) (x : S157x128.Idx)
    (h : scan ov g n x = 4294967295#32) : n ≤ pos x := by
  induction n with
  | zero => exact Nat.zero_le _
  | succ n ih =>
    have h0 := scan_open ov g (n + 1) hn x h
    rw [scan] at h
    have hx : scan ov g n x = 4294967295#32 := by
      split at h
      · unfold visit at h
        split at h
        · exact absurd h (pos_word_ne n (by omega))
        · exact h
      · exact h
    have hle := ih (by omega) hx
    rcases Nat.lt_or_eq_of_le hle with hlt | heq
    · exact hlt
    · exfalso
      have hat : at' n (by omega) = x := pos_inj (by rw [pos_at', heq])
      have hopen : openAt (scan ov g n) n := ⟨by omega, by rw [hat]; exact hx⟩
      rw [if_pos hopen] at h
      unfold visit at h
      rw [if_pos ⟨hx, by rw [heq]; exact hself x h0⟩] at h
      exact pos_word_ne n (by omega) h

/-- and the scan does nothing before the next unmatched position. -/
theorem scan_skip (n m : ℕ) (hnm : n ≤ m) (hm : m ≤ firstUn (scan ov g n)) : scan ov g m = scan ov g n := by
  induction m with
  | zero => rw [Nat.le_zero.1 hnm]
  | succ m ih =>
    rcases Nat.lt_or_eq_of_le hnm with hlt | heq
    · have hI := ih (by omega) (by omega)
      rw [scan, hI, if_neg]
      rintro ⟨hm', ho⟩
      have := firstUn_le_of _ _ ho
      rw [pos_at'] at this
      omega
    · rw [heq]

/-- What a match array may hold: unmatched, dropped, or a position below 20000. -/
def Entry (w : BitVec 32) : Prop := w = 4294967295#32 ∨ w = 4294967294#32 ∨ ∃ p : Fin 20000, w = BitVec.ofNat 32 p.val

theorem scan_entry (h0 : ∀ x, g x = 4294967295#32 ∨ g x = 4294967294#32) (hpad : ∀ x, 20000 ≤ pos x → g x ≠ 4294967295#32)
    (n : ℕ) (hn : n ≤ 20096) (x : S157x128.Idx) : Entry (scan ov g n x) := by
  induction n with
  | zero => exact (h0 x).imp id Or.inl
  | succ n ih =>
    rw [scan]
    split
    · next ho =>
      unfold visit
      split
      · obtain ⟨hn', ho⟩ := ho
        have hlt : n < 20000 := by
          by_contra hge
          exact hpad _ (by rw [pos_at']; omega) (scan_open ov g n (by omega) _ ho)
        exact Or.inr (Or.inr ⟨⟨n, hlt⟩, rfl⟩)
      · exact ih (by omega)
    · exact ih (by omega)

/-- Nothing is unmatched among the padding, so the scan is done at 20000. -/
theorem scan_done (hpad : ∀ x, 20000 ≤ pos x → g x ≠ 4294967295#32) (n : ℕ) (hn : 20000 ≤ n) (hn' : n ≤ 20096) :
    scan ov g n = scan ov g 20000 := by
  induction n with
  | zero => omega
  | succ n ih =>
    rcases Nat.lt_or_eq_of_le hn with hlt | heq
    · rw [scan, ih (by omega) (by omega), if_neg]
      rintro ⟨hm, ho⟩
      exact hpad _ (by rw [pos_at']; omega) (scan_open ov g 20000 (by omega) _ ho)
    · rw [heq]

/-! ## The kernel's loop -/

variable {F : FTy → Type} [FloatOps F] (W : NatWords F) (I : Ins F)

theorem slt_end (p : ℕ) (hp : p ≤ 20096) : Scalar.cmpi .slt (BitVec.ofNat 32 p) 20096#32 = if p < 20096 then 1#1 else 0#1 :=
  slt_word p 20096 (by omega) (by norm_num)

include W in
/-- The loop, entered where the positions below `n` are done, ends with the scan over all positions. -/
theorem loop_scan (hchk : ∀ p, p < 20096 → k0_chk1 (BitVec.ofNat 32 p))
    (hstep : ∀ p (hp : p < 20096) (h : k0_chk1 (BitVec.ofNat 32 p)) g, kStep I (BitVec.ofNat 32 p) h g = visit ov p g)
    (hself : ∀ x, g x = 4294967295#32 → ov (pos x) x) (d n : ℕ) (hd : d + n = 20096) :
    ∃ k, Halts I k (BitVec.ofNat 32 (firstUn (scan ov g n))) (scan ov g n)
      ∧ kRun I k (BitVec.ofNat 32 (firstUn (scan ov g n))) (scan ov g n) = scan ov g 20096 := by
  induction d using Nat.strong_induction_on generalizing n with
  | _ d ih =>
    rcases Nat.lt_or_eq_of_le (firstUn_le (scan ov g n)) with hlt | heq
    · generalize hp : firstUn (scan ov g n) = p at hlt
      obtain ⟨x, hx, hpx⟩ := firstUn_mem (scan ov g n) (by omega)
      rw [hp] at hpx
      have hnp : n ≤ p := hpx ▸ scan_pos ov g hself n (by omega) x hx
      have hskip : scan ov g p = scan ov g n := scan_skip ov g n p hnp hp.ge
      have hat : at' p hlt = x := pos_inj (by rw [pos_at', hpx])
      have hnext : scan ov g (p + 1) = visit ov p (scan ov g n) := by
        rw [scan, hskip, if_pos ⟨hlt, by rw [hat]; exact hx⟩]
      obtain ⟨k, hk, hr⟩ := ih (20096 - (p + 1)) (by omega) (p + 1) (by omega)
      have hc := hchk p hlt
      rw [hnext] at hk hr
      refine ⟨k + 1, ⟨?_, hc, ?_⟩, ?_⟩
      · rw [slt_end p hlt.le, if_pos hlt]
      · rw [hstep p hlt, kNext_eq W]; exact hk
      · rw [kRun_succ I k _ hc, hstep p hlt, kNext_eq W]; exact hr
    · refine ⟨0, ?_, ?_⟩
      · show ¬Scalar.cmpi .slt _ _ = 1#1
        rw [heq, slt_end 20096 le_rfl]
        simp
      · exact (scan_skip ov g n 20096 (by omega) heq.ge).symm

end Cert.Proof

end
-- ==== Proof.KernelTrip.lean ====
/-
  One trip of the kernel's loop, read at an entry: at a position inside the array every read of the packed boxes is in
  bounds, and the trip is a visit (`visit`) by the overlap test the kernel computes (`overB`).
-/
module

public import proofs.«01_k».proof.Proof.Scan
public import Idealize.ShloMosaic.Lib.ValueIdxCore

@[expose] public section

noncomputable section

namespace Cert.Proof.K

open Cert.KernelIdeal Cert.KernelIdeal.Gen
open Idealize.ShloMosaic Idealize.ShloMosaic.ValueIdx

variable {F : FTy → Type} [FloatOps F]

/-- The overlap of a box `a` and a box `b` as the kernel computes it: the area of the intersection. -/
def interK (a0 a1 a2 a3 b0 b1 b2 b3 : F .f32) : F .f32 :=
  FloatOps.mulf (FloatOps.maximumf (FloatOps.subf (FloatOps.minimumf a2 b2) (FloatOps.maximumf a0 b0)) (FloatOps.ofBits .f32 0x00000000#32))
    (FloatOps.maximumf (FloatOps.subf (FloatOps.minimumf a3 b3) (FloatOps.maximumf a1 b1)) (FloatOps.ofBits .f32 0x00000000#32))

/-- The kernel's test that box `a` overlaps box `b`, of area `ar`, more than the threshold. -/
def overB (thr a0 a1 a2 a3 b0 b1 b2 b3 ar : F .f32) : BitVec 1 :=
  FloatOps.cmpf .ogt (FloatOps.divf (interK a0 a1 a2 a3 b0 b1 b2 b3)
    (FloatOps.addf (FloatOps.subf (FloatOps.addf (Scalar.mulf (Scalar.subf a2 a0) (Scalar.subf a3 a1)) ar) (interK a0 a1 a2 a3 b0 b1 b2 b3))
      (FloatOps.ofBits .f32 0x2EDBE6FF#32))) thr

/-- The packed boxes at an offset below their length. -/
def pkAt (pk : (cc0_stg0_0 : Ref sig .tc).ty.Contents (Elt F)) (n : ℕ) : F .f32 :=
  (pk : S80384.Idx → F .f32) fun a => match a with | ⟨0, _⟩ => ⟨n % 80384, Nat.mod_lt _ (by norm_num)⟩

/-- Position `p` overlaps the entry `x`. -/
def ovK (I : Ins F) (p : ℕ) (x : S157x128.Idx) : Prop :=
  overB I.thr (pkAt I.pk (4 * p)) (pkAt I.pk (4 * p + 1)) (pkAt I.pk (4 * p + 2)) (pkAt I.pk (4 * p + 3))
    (I.b0 x) (I.b1 x) (I.b2 x) (I.b3 x) (I.ar x) = 1#1

instance (I : Ins F) (p : ℕ) (x : S157x128.Idx) : Decidable (ovK I p x) := by unfold ovK; infer_instance

theorem off1_word (p : ℕ) (hp : p < 20096) : k0_off1 (BitVec.ofNat 32 p) = ![4 * p] := by
  unfold k0_off1
  have : (Scalar.indexCast (Scalar.muli (BitVec.ofNat 32 p) 4#32)).toNat = 4 * p := by
    have h : (Scalar.muli (BitVec.ofNat 32 p) 4#32) = BitVec.ofNat 32 (4 * p) := by
      unfold Scalar.muli
      apply BitVec.eq_of_toNat_eq
      simp [IntOp.muli, BitVec.toNat_mul, Nat.mul_comm]
    rw [h]
    simp only [Scalar.indexCast]
    rw [toNat_word _ (by omega)]
  simp only [this]

theorem off2_word (p k : ℕ) (hp : p < 20096) (hk : k < 4) : k0_off2 (BitVec.ofNat 32 p) (BitVec.ofNat 32 k) = ![4 * p + k] := by
  unfold k0_off2
  have : (Scalar.indexCast (Scalar.addi (Scalar.muli (BitVec.ofNat 32 p) 4#32) (BitVec.ofNat 32 k))).toNat = 4 * p + k := by
    have h : (Scalar.addi (Scalar.muli (BitVec.ofNat 32 p) 4#32) (BitVec.ofNat 32 k)) = BitVec.ofNat 32 (4 * p + k) := by
      unfold Scalar.muli Scalar.addi
      apply BitVec.eq_of_toNat_eq
      simp [IntOp.muli, IntOp.addi, BitVec.toNat_mul, BitVec.toNat_add, Nat.mul_comm]
    rw [h]
    simp only [Scalar.indexCast]
    rw [toNat_word _ (by omega)]
  simp only [this]

theorem chk_word (p : ℕ) (hp : p < 20096) : k0_chk1 (BitVec.ofNat 32 p) := by
  refine ⟨fun a => ?_, fun r a => ?_⟩
  · rw [off1_word p hp]
    match a with
    | ⟨0, _⟩ => show 4 * p + 1 ≤ 80384; omega
  · rw [off2_word p (1 + r.val) hp (by omega)]
    match a with
    | ⟨0, _⟩ => show 4 * p + (1 + r.val) + 1 ≤ 80384; omega

/-- A word of the packed boxes is the entry at its offset. -/
theorem word_eq (fp : (cc0_stg0_0 : Ref sig .tc).ty.Contents (Elt F)) (off : Fin 1 → ℕ) (h) (n : ℕ) (hn : n < 80384) (ho : off = ![n]) :
    word fp off h = pkAt fp n := by
  subst ho
  unfold word pkAt
  show fp _ = fp _
  congr 1
  funext a
  match a with
  | ⟨0, _⟩ =>
    refine Fin.ext ?_
    show _ = n % 80384
    rw [Nat.mod_eq_of_lt hn]
    show n + (Shape.Idx.first (numel1_S1.symm ▸ Nat.one_pos) (0 : Fin 1)).val * 1 = n
    simp [Shape.Idx.first]

theorem cast_id (g : IVec S157x128 32) : shapeCast S157x128 g shapeCasts_S157x128_S157x128 = g := by
  funext x; show g (Shape.reshapeEquiv _ x) = g x; rw [Shape.reshapeEquiv_self]

theorem andi_one {a b : BitVec 1} : IntOp.andi a b = 1#1 ↔ a = 1#1 ∧ b = 1#1 := by
  revert a b; decide

/-- The trip at position `p` is the visit of `p`. -/
theorem kStep_word (I : Ins F) (p : ℕ) (hp : p < 20096) (h : k0_chk1 (BitVec.ofNat 32 p)) (g : IVec S157x128 32) :
    kStep I (BitVec.ofNat 32 p) h g = visit (ovK I) p g := by
  unfold kStep
  rw [word_eq I.pk _ _ (4 * p) (by omega) (off1_word p hp), word_eq I.pk _ _ (4 * p + 1) (by omega) (off2_word p 1 hp (by omega)),
    word_eq I.pk _ _ (4 * p + 2) (by omega) (off2_word p 2 hp (by omega)), word_eq I.pk _ _ (4 * p + 3) (by omega) (off2_word p 3 hp (by omega))]
  funext x
  unfold k0_pay11
  simp only [cast_id]
  show (if IntOp.andi (IntOp.cmpi .eq (g x) 4294967295#32) (overB I.thr (pkAt I.pk (4 * p)) (pkAt I.pk (4 * p + 1)) (pkAt I.pk (4 * p + 2)) (pkAt I.pk (4 * p + 3))
    (I.b0 x) (I.b1 x) (I.b2 x) (I.b3 x) (I.ar x)) = 1#1 then BitVec.ofNat 32 p else g x) = _
  unfold visit
  refine if_congr ?_ rfl rfl
  rw [andi_one, cmpi_eq_one]
  rfl

end Cert.Proof.K

end
-- ==== Proof.KernelRun.lean ====
/-
  The kernel's launch: the host operations before the kernel, the kernel, the host operations after it. From any memory
  with zero counters from which the kernel's loop ends, every run ends with the arrays of the pipeline at what the loop
  leaves, every other buffer at what the host operations leave, and every counter at zero.
-/
module

public import proofs.«01_k».proof.Proof.KernelBody

@[expose] public section

noncomputable section

namespace Cert.Proof.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA)

variable {F : FTy → Type} [FloatOps F]

/-- The host operations before the kernel, -/
abbrev preK : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14]

/-- and after it. -/
abbrev postK : List (List (HloOp τ sig (Elt F))) := [hostOps1, hostOps1_1, hostOps1_2, hostOps1_3, hostOps1_4, hostOps1_5]

variable (m : (ℓ : Loc nD τ sig) → Buf (Elt F) ℓ) (ρ : Dev nD → PrngReg)

/-- The contents at the kernel's launch. -/
def entryV (c : Dev nD) : Valuation τ sig (Elt F) := StableHlo.after (preK (F := F)).flatten (fun b => m (c, b))

theorem share_eq (V : Dev nD → Valuation τ sig (Elt F)) (kk : Dev nD → ℕ) (c : Dev nD) (w : Fin (cfg0 (F := F)).W) :
    (dats V kk 0 c).share w = fullShare := by
  unfold Dat.share; split <;> rfl

theorem preK_sub : (preK (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub, hostOps0_13_sub, hostOps0_14_sub⟩

theorem postK_sub : ∀ ops ∈ (postK (F := F)), ∀ op ∈ ops, op.bufs ⊆ StableHlo.tcRefs τ sig := by
  have h : (postK (F := F)).Forall fun ops => ops.Forall fun op => op.bufs ⊆ StableHlo.tcRefs τ sig :=
    ⟨hostOps1_sub, hostOps1_1_sub, hostOps1_2_sub, hostOps1_3_sub, hostOps1_4_sub, hostOps1_5_sub⟩
  intro ops ho op hop
  exact List.forall_iff_forall_mem.mp (List.forall_iff_forall_mem.mp h ops ho) op hop

theorem preK_fresh : (preK (F := F)).Forall fun ops => ops.Forall fun op => op.fresh = ∅ := by
  simp only [preK, List.Forall, hostOps0, hostOps0_1, hostOps0_2, hostOps0_3, hostOps0_4, hostOps0_5, hostOps0_6, hostOps0_7, hostOps0_8, hostOps0_9,
    hostOps0_10, hostOps0_11, hostOps0_12, hostOps0_13, hostOps0_14]
  repeat' apply And.intro
  all_goals rfl

theorem postK_fresh : ∀ ops ∈ (postK (F := F)), ∀ op ∈ ops, op.fresh = ∅ := by
  have h : (postK (F := F)).Forall fun ops => ops.Forall fun op => op.fresh = ∅ := by
    simp only [postK, List.Forall, hostOps1, hostOps1_1, hostOps1_2, hostOps1_3, hostOps1_4, hostOps1_5]
    repeat' apply And.intro
    all_goals rfl
  intro ops ho op hop
  exact List.forall_iff_forall_mem.mp (List.forall_iff_forall_mem.mp h ops ho) op hop

/-- An operation that writes one buffer, none of the kernel's arrays, keeps them all. -/
theorem keep_of {op : HloOp τ sig (Elt F)} {y : Ref sig .tc} (h : op.writes = {Proc.devRef .tc y})
    (hy : ∀ w : Fin 9, Pipeline.arrRef spec0 w ≠ y) : ∀ w : Fin 9, Proc.devRef .tc (Pipeline.arrRef spec0 w) ∉ op.writes := by
  intro w hw
  rw [h, Finset.mem_singleton] at hw
  exact hy w (Proc.devRef_injective _ hw)

/-- No host operation after the kernel writes one of the kernel's arrays. -/
theorem postK_keep : ∀ ops ∈ (postK (F := F)), ∀ op ∈ ops, ∀ w : Fin 9, Proc.devRef .tc (Pipeline.arrRef spec0 w) ∉ op.writes := by
  have h : (postK (F := F)).Forall fun ops => ops.Forall fun op => ∀ w : Fin 9, Proc.devRef .tc (Pipeline.arrRef spec0 w) ∉ op.writes := by
    simp only [postK, List.Forall, hostOps1, hostOps1_1, hostOps1_2, hostOps1_3, hostOps1_4, hostOps1_5]
    repeat' apply And.intro
    all_goals exact keep_of rfl (by decide)
  intro ops ho op hop
  exact List.forall_iff_forall_mem.mp (List.forall_iff_forall_mem.mp h ops ho) op hop

/-- The run. -/
theorem run_main (kk : Dev nD → ℕ)
    (hk : ∀ c, Halts (ins (entryV m) c) (kk c) (r₀ (entryV m) c) (g₀ (entryV m) c)) :
    θ_run defs (onTc (τ := τ) (main (F := F))) ⟨m, fun _ => 0, ρ⟩ (fun r =>
      Pipeline.FramePost cfgs (dats (entryV m) kk) 0 (Pipeline.afterTail₀ cfgs (dats (entryV m) kk) 0 (entryV m) postK) r
        ∧ r.2.sem = fun _ => 0) :=
  Pipeline.θ_run_frame_around cfgs (dats (entryV m) kk) 0 launch0 defs₀ 𝒱₀ m ρ main
    (hbody := fun c => (body_obligation (entryV m) kk c (hk c)).loose)
    (hshare := share_eq (entryV m) kk) (howed := fun _ _ => rfl)
    (V₀ := entryV m) (opss := postK)
    (hsub := fun ops ho op hop => Pipeline.sub_tailRefs _ _ op (postK_sub ops ho op hop) (fun k => k.elim0))
    (hfresh := postK_fresh) (hkeep := postK_keep)
    (hmain := Pipeline.hmain_around cfgs 0 defs₀ 𝒱₀ m main preK postK preK_sub preK_fresh (fun c => main_chain c))
    (hA := fun _ _ => rfl) (hΦ := fun _ _ => rfl)
    (Q' := _) (hQ' := fun _ h => h)

end Cert.Proof.K

end
-- ==== Proof.KernelHost.lean ====
/-
  What the host operations hand to the kernel and make of its result, as terms over the arguments.
-/
module

public import proofs.«01_k».proof.Proof.KernelRun
public import Idealize.ShloMosaic.Lib.Claim

@[expose] public section

noncomputable section

namespace Cert.Proof.K

open Cert.KernelIdeal Cert.KernelIdeal.Gen
open Idealize.ShloMosaic Idealize.ShloMosaic.StableHlo
open Idealize.ShloMosaic.TcCoe

variable {F : FTy → Type} [FloatOps F]

/-! ## Before the kernel -/

/-- The order by descending score. -/
def ordK (a1 : FVec F S1x1x20000 .f32) : IVec S20000 32 :=
  (Host.sort2 S20000 0 comparator_f32_i32_d0 (Host.negf (shapeCast S20000 a1 shapeCasts_S1x1x20000_S20000)) (iotaInDim S20000 32 0)).2

/-- Positions as the start indices of a gather, negative ones wrapped. -/
def colK (o : IVec S20000 32) : IVec S20000x1 32 :=
  broadcastInDim S20000x1 ![0] bcast_S20000_S20000x1_0
    (select (cmpi .slt o (broadcastInDim S20000 ![] bcast_S_S20000 (constantI S_ 32 0#32)))
      (addi o (broadcastInDim S20000 ![] bcast_S_S20000 (constantI S_ 32 20000#32))) o)

/-- The boxes in order. -/
def boxK (a0 : FVec F S1x20000x4 .f32) (o : IVec S20000 32) : FVec F S20000x4 .f32 :=
  Host.gather gather_S20000x4_S20000x1_S20000x4_1_0_n_n_0_1_14 (shapeCast S20000x4 a0 shapeCasts_S1x20000x4_S20000x4) (colK o)

/-- A vector of boxes' numbers padded to the array's size. -/
def padK (x : FVec F S20000 .f32) (z : FVec F S_ .f32) : FVec F S157x128 .f32 :=
  shapeCast S157x128 (pad S20096 ![0] ![96] ![0] x z pads_S20000_S20096_0960 h_S_) shapeCasts_S20096_S157x128

/-- The padding of the boxes. -/
def zeroK : FVec F S_ .f32 := sitofp .f32 (constantI S_ 32 0#32)

def c0K (b : FVec F S20000x4 .f32) : FVec F S157x128 .f32 :=
  padK (shapeCast S20000 (extractStridedSlice S20000x1 ![0, 0] b slices_S20000x4_S20000x1_0_0) shapeCasts_S20000x1_S20000) zeroK
def c1K (b : FVec F S20000x4 .f32) : FVec F S157x128 .f32 :=
  padK (shapeCast S20000 (extractStridedSlice S20000x1 ![0, 1] b slices_S20000x4_S20000x1_0_1) shapeCasts_S20000x1_S20000) zeroK
def c2K (b : FVec F S20000x4 .f32) : FVec F S157x128 .f32 :=
  padK (shapeCast S20000 (extractStridedSlice S20000x1 ![0, 2] b slices_S20000x4_S20000x1_0_2) shapeCasts_S20000x1_S20000) zeroK
def c3K (b : FVec F S20000x4 .f32) : FVec F S157x128 .f32 :=
  padK (shapeCast S20000 (extractStridedSlice S20000x1 ![0, 3] b slices_S20000x4_S20000x1_0_3) shapeCasts_S20000x1_S20000) zeroK

/-- The scores in order, padded. -/
def scoreK (a1 : FVec F S1x1x20000 .f32) (o : IVec S20000 32) : FVec F S157x128 .f32 :=
  padK (Host.gather gather_S20000_S20000x1_S20000_n_0_n_n_0_1_1 (shapeCast S20000 a1 shapeCasts_S1x1x20000_S20000) (colK o))
    (constant S_ .f32 0xFF800000#32)

/-- The packed boxes. -/
def packK (b : FVec F S20000x4 .f32) : FVec F S80384 .f32 :=
  shapeCast S80384 (pad S20096x4 ![0, 0] ![96, 0] ![0, 0] b zeroK pads_S20000x4_S20096x4_0960_000 h_S_) shapeCasts_S20096x4_S80384

/-- The two thresholds. -/
def thrK (a2 a3 : FVec F S1 .f32) : FVec F S1x2 .f32 :=
  shapeCast S1x2 (concatenate S2 0 [⟨S1, broadcastInDim S1 ![] bcast_S_S1 (shapeCast S_ a2 shapeCasts_S1_S_)⟩,
    ⟨S1, broadcastInDim S1 ![] bcast_S_S1 (shapeCast S_ a3 shapeCasts_S1_S_)⟩] concatenates_S1_S1_S2_d0) shapeCasts_S2_S1x2

section Entry
variable (m : (ℓ : Loc nD τ sig) → Buf (Elt F) ℓ) (c : Dev nD)

/-- The arguments. -/
abbrev arg0K : FVec F S1x20000x4 .f32 := m (c, Proc.devRef .tc main_arg0)
abbrev arg1K : FVec F S1x1x20000 .f32 := m (c, Proc.devRef .tc main_arg1)
abbrev arg2K : FVec F S1 .f32 := m (c, Proc.devRef .tc main_arg2)
abbrev arg3K : FVec F S1 .f32 := m (c, Proc.devRef .tc main_arg3)

theorem entry_v0 : entryV m c (Proc.devRef .tc main_v0) = (iotaInDim S20000 32 0 : IVec S20000 32) := by
  unfold entryV
  simp only [preK, List.flatten_cons, List.flatten_nil, List.append_nil, List.cons_append, List.nil_append]
  after_results_simp

theorem entry_v10 : entryV m c (Proc.devRef .tc main_v10) = ordK (arg1K m c) := by
  unfold entryV
  simp only [preK, List.flatten_cons, List.flatten_nil, List.append_nil, List.cons_append, List.nil_append]
  after_results_simp
  rfl

theorem entry_v6 : entryV m c (Proc.devRef .tc main_v6) = thrK (arg2K m c) (arg3K m c) := by
  unfold entryV
  simp only [preK, List.flatten_cons, List.flatten_nil, List.append_nil, List.cons_append, List.nil_append]
  after_results_simp
  rfl

theorem entry_v28 : entryV m c (Proc.devRef .tc main_v28) = c0K (boxK (arg0K m c) (ordK (arg1K m c))) := by
  unfold entryV
  simp only [preK, List.flatten_cons, List.flatten_nil, List.append_nil, List.cons_append, List.nil_append]
  after_results_simp
  rfl

theorem entry_v32 : entryV m c (Proc.devRef .tc main_v32) = c1K (boxK (arg0K m c) (ordK (arg1K m c))) := by
  unfold entryV
  simp only [preK, List.flatten_cons, List.flatten_nil, List.append_nil, List.cons_append, List.nil_append]
  after_results_simp
  rfl

theorem entry_v36 : entryV m c (Proc.devRef .tc main_v36) = c2K (boxK (arg0K m c) (ordK (arg1K m c))) := by
  unfold entryV
  simp only [preK, List.flatten_cons, List.flatten_nil, List.append_nil, List.cons_append, List.nil_append]
  after_results_simp
  rfl

theorem entry_v40 : entryV m c (Proc.devRef .tc main_v40) = c3K (boxK (arg0K m c) (ordK (arg1K m c))) := by
  unfold entryV
  simp only [preK, List.flatten_cons, List.flatten_nil, List.append_nil, List.cons_append, List.nil_append]
  after_results_simp
  rfl

theorem entry_v43 : entryV m c (Proc.devRef .tc main_v43) = mulf (subf (c2K (boxK (arg0K m c) (ordK (arg1K m c)))) (c0K (boxK (arg0K m c) (ordK (arg1K m c))))) (subf (c3K (boxK (arg0K m c) (ordK (arg1K m c)))) (c1K (boxK (arg0K m c) (ordK (arg1K m c))))) := by
  unfold entryV
  simp only [preK, List.flatten_cons, List.flatten_nil, List.append_nil, List.cons_append, List.nil_append]
  after_results_simp
  rfl

theorem entry_v45 : entryV m c (Proc.devRef .tc main_v45) = scoreK (arg1K m c) (ordK (arg1K m c)) := by
  unfold entryV
  simp only [preK, List.flatten_cons, List.flatten_nil, List.append_nil, List.cons_append, List.nil_append]
  after_results_simp
  rfl

theorem entry_v47 : entryV m c (Proc.devRef .tc main_v47) = packK (boxK (arg0K m c) (ordK (arg1K m c))) := by
  unfold entryV
  simp only [preK, List.flatten_cons, List.flatten_nil, List.append_nil, List.cons_append, List.nil_append]
  after_results_simp
  rfl

theorem entry_arg0 : entryV m c (Proc.devRef .tc main_arg0) = m (c, Proc.devRef .tc main_arg0) := by
  unfold entryV
  simp only [preK, List.flatten_cons, List.flatten_nil, List.append_nil, List.cons_append, List.nil_append]
  after_results_simp

theorem entry_arg1 : entryV m c (Proc.devRef .tc main_arg1) = m (c, Proc.devRef .tc main_arg1) := by
  unfold entryV
  simp only [preK, List.flatten_cons, List.flatten_nil, List.append_nil, List.cons_append, List.nil_append]
  after_results_simp

theorem entry_arg2 : entryV m c (Proc.devRef .tc main_arg2) = m (c, Proc.devRef .tc main_arg2) := by
  unfold entryV
  simp only [preK, List.flatten_cons, List.flatten_nil, List.append_nil, List.cons_append, List.nil_append]
  after_results_simp

theorem entry_arg3 : entryV m c (Proc.devRef .tc main_arg3) = m (c, Proc.devRef .tc main_arg3) := by
  unfold entryV
  simp only [preK, List.flatten_cons, List.flatten_nil, List.append_nil, List.cons_append, List.nil_append]
  after_results_simp

end Entry

/-! ## After the kernel -/

/-- The match array as a vector of the boxes in order. -/
def sortedK (g : IVec S157x128 32) : IVec S20000 32 :=
  extractStridedSlice S20000 ![0] (shapeCast S20096 g shapeCasts_S157x128_S20096) slices_S20096_S20000_0

/-- A word on every position. -/
def fillK (w : BitVec 32) : IVec S20000 32 := broadcastInDim S20000 ![] bcast_S_S20000 (constantI S_ 32 w)

/-- The positions of the match array replaced by the boxes they stand for. -/
def keeperK (o : IVec S20000 32) (v : IVec S20000 32) : IVec S20000 32 :=
  select (cmpi .sge v (fillK 0#32))
    (Host.gather gather_S20000_S20000x1_S20000_n_0_n_n_0_1_1 o (colK (minsi (fillK 19999#32) (maxsi (fillK 0#32) v)))) v

/-- The match array in the boxes' order. -/
def backK (o : IVec S20000 32) (v : IVec S20000 32) : IVec S20000 32 :=
  Host.scatter scatter_S20000_S20000x1_S20000_n_0_0_1 (fun _ b => b) (fillK 0#32) (colK o) (keeperK o v)

/-- The pairs of a match vector. -/
def rowsK (i : IVec S20000 32) (a : IVec S20000 32) : IVec S20000x4 32 :=
  select (broadcastInDim S20000x4 ![0, 1] bcast_S20000x1_S20000x4_0_1 (broadcastInDim S20000x1 ![0] bcast_S20000_S20000x1_0
      (andi (cmpi .sge a (fillK 0#32)) (cmpi .ne a i))))
    (concatenate S20000x4 1 [⟨S20000x1, broadcastInDim S20000x1 ![0] bcast_S20000_S20000x1_0 (fillK 0#32)⟩,
      ⟨S20000x1, broadcastInDim S20000x1 ![0] bcast_S20000_S20000x1_0 (fillK 0#32)⟩,
      ⟨S20000x1, broadcastInDim S20000x1 ![0] bcast_S20000_S20000x1_0 a⟩,
      ⟨S20000x1, broadcastInDim S20000x1 ![0] bcast_S20000_S20000x1_0 i⟩] concatenates_S20000x1_S20000x1_S20000x1_S20000x1_S20000x4_d1)
    (broadcastInDim S20000x4 ![] bcast_S_S20000x4 (constantI S_ 32 4294967295#32))

/-- The lists up to the boxes that the positions stand for, -/
abbrev postA : List (HloOp τ sig (Elt F)) := hostOps1 ++ (hostOps1_1 ++ (hostOps1_2 ++ hostOps1_3))

theorem postA_v61 (X : Valuation τ sig (Elt F)) : StableHlo.after (postA (F := F)) X (Proc.devRef .tc main_v61)
    = keeperK (X (Proc.devRef .tc main_v10)) (sortedK (X (Proc.devRef .tc main_v48))) := by
  simp only [postA, List.cons_append, List.nil_append]
  after_results_simp
  rfl

theorem postA_v10 (X : Valuation τ sig (Elt F)) : StableHlo.after (postA (F := F)) X (Proc.devRef .tc main_v10) = X (Proc.devRef .tc main_v10) := by
  simp only [postA, List.cons_append, List.nil_append]
  after_results_simp

theorem postA_v0 (X : Valuation τ sig (Elt F)) : StableHlo.after (postA (F := F)) X (Proc.devRef .tc main_v0) = X (Proc.devRef .tc main_v0) := by
  simp only [postA, List.cons_append, List.nil_append]
  after_results_simp

/-- the columns of the pairs, -/
abbrev postB : List (HloOp τ sig (Elt F)) := (hostOps1_4 (F := F)).take 24

/-- and the pairs. -/
abbrev postC : List (HloOp τ sig (Elt F)) := (hostOps1_4 (F := F)).drop 24 ++ hostOps1_5

theorem postB_v76 (X : Valuation τ sig (Elt F)) : StableHlo.after (postB (F := F)) X (Proc.devRef .tc main_v76)
    = (broadcastInDim S20000x1 ![0] bcast_S20000_S20000x1_0 (fillK 0#32) : IVec S20000x1 32) := by
  simp only [postB, List.take_succ_cons, List.take_zero, List.drop_succ_cons, List.drop_zero, List.cons_append, List.nil_append]
  after_results_simp
  rfl
theorem postB_v77 (X : Valuation τ sig (Elt F)) : StableHlo.after (postB (F := F)) X (Proc.devRef .tc main_v77)
    = (broadcastInDim S20000x1 ![0] bcast_S20000_S20000x1_0 (fillK 0#32) : IVec S20000x1 32) := by
  simp only [postB, List.take_succ_cons, List.take_zero, List.drop_succ_cons, List.drop_zero, List.cons_append, List.nil_append]
  after_results_simp
  rfl
theorem postB_v78 (X : Valuation τ sig (Elt F)) : StableHlo.after (postB (F := F)) X (Proc.devRef .tc main_v78)
    = (broadcastInDim S20000x1 ![0] bcast_S20000_S20000x1_0 (Host.scatter scatter_S20000_S20000x1_S20000_n_0_0_1 (fun _ b => b) (fillK 0#32)
        (colK (X (Proc.devRef .tc main_v10))) (X (Proc.devRef .tc main_v61))) : IVec S20000x1 32) := by
  simp only [postB, List.take_succ_cons, List.take_zero, List.drop_succ_cons, List.drop_zero, List.cons_append, List.nil_append]
  after_results_simp
  rfl
theorem postB_v79 (X : Valuation τ sig (Elt F)) : StableHlo.after (postB (F := F)) X (Proc.devRef .tc main_v79)
    = (broadcastInDim S20000x1 ![0] bcast_S20000_S20000x1_0 (X (Proc.devRef .tc main_v0)) : IVec S20000x1 32) := by
  simp only [postB, List.take_succ_cons, List.take_zero, List.drop_succ_cons, List.drop_zero, List.cons_append, List.nil_append]
  after_results_simp

theorem postB_v73 (X : Valuation τ sig (Elt F)) : StableHlo.after (postB (F := F)) X (Proc.devRef .tc main_v73)
    = (andi (cmpi .sge (Host.scatter scatter_S20000_S20000x1_S20000_n_0_0_1 (fun _ b => b) (fillK 0#32)
        (colK (X (Proc.devRef .tc main_v10))) (X (Proc.devRef .tc main_v61))) (fillK 0#32)) (cmpi .ne (Host.scatter scatter_S20000_S20000x1_S20000_n_0_0_1 (fun _ b => b) (fillK 0#32)
        (colK (X (Proc.devRef .tc main_v10))) (X (Proc.devRef .tc main_v61))) (X (Proc.devRef .tc main_v0))) : IVec S20000 1) := by
  simp only [postB, List.take_succ_cons, List.take_zero, List.drop_succ_cons, List.drop_zero, List.cons_append, List.nil_append]
  after_results_simp
  rfl
theorem postC_v82 (X : Valuation τ sig (Elt F)) : StableHlo.after (postC (F := F)) X (Proc.devRef .tc main_v82)
    = (select (broadcastInDim S20000x4 ![0, 1] bcast_S20000x1_S20000x4_0_1 (broadcastInDim S20000x1 ![0] bcast_S20000_S20000x1_0
      (X (Proc.devRef .tc main_v73) : IVec S20000 1)))
    (concatenate S20000x4 1 [⟨S20000x1, (X (Proc.devRef .tc main_v76) : IVec S20000x1 32)⟩, ⟨S20000x1, (X (Proc.devRef .tc main_v77) : IVec S20000x1 32)⟩,
      ⟨S20000x1, (X (Proc.devRef .tc main_v78) : IVec S20000x1 32)⟩, ⟨S20000x1, (X (Proc.devRef .tc main_v79) : IVec S20000x1 32)⟩] concatenates_S20000x1_S20000x1_S20000x1_S20000x1_S20000x4_d1)
    (broadcastInDim S20000x4 ![] bcast_S_S20000x4 (constantI S_ 32 4294967295#32)) : IVec S20000x4 32) := by
  simp only [postC, List.drop_succ_cons, List.drop_zero, List.cons_append, List.nil_append]
  after_results_simp
  rfl

theorem post_v82 (X : Valuation τ sig (Elt F)) : StableHlo.after (postK (F := F)).flatten X (Proc.devRef .tc main_v82)
    = rowsK (X (Proc.devRef .tc main_v0)) (backK (X (Proc.devRef .tc main_v10)) (sortedK (X (Proc.devRef .tc main_v48)))) := by
  have h : (postK (F := F)).flatten = postA ++ (postB ++ postC) := by
    rfl
  rw [h, StableHlo.after_append, StableHlo.after_append, postC_v82, postB_v73, postB_v76, postB_v77, postB_v78, postB_v79, postA_v61, postA_v10, postA_v0]
  rfl

theorem post_arg0 (X : Valuation τ sig (Elt F)) : StableHlo.after (postK (F := F)).flatten X (Proc.devRef .tc main_arg0) = X (Proc.devRef .tc main_arg0) := by
  simp only [postK, List.flatten_cons, List.flatten_nil, List.append_nil, List.cons_append, List.nil_append]
  after_results_simp

theorem post_arg1 (X : Valuation τ sig (Elt F)) : StableHlo.after (postK (F := F)).flatten X (Proc.devRef .tc main_arg1) = X (Proc.devRef .tc main_arg1) := by
  simp only [postK, List.flatten_cons, List.flatten_nil, List.append_nil, List.cons_append, List.nil_append]
  after_results_simp

theorem post_arg2 (X : Valuation τ sig (Elt F)) : StableHlo.after (postK (F := F)).flatten X (Proc.devRef .tc main_arg2) = X (Proc.devRef .tc main_arg2) := by
  simp only [postK, List.flatten_cons, List.flatten_nil, List.append_nil, List.cons_append, List.nil_append]
  after_results_simp

theorem post_arg3 (X : Valuation τ sig (Elt F)) : StableHlo.after (postK (F := F)).flatten X (Proc.devRef .tc main_arg3) = X (Proc.devRef .tc main_arg3) := by
  simp only [postK, List.flatten_cons, List.flatten_nil, List.append_nil, List.cons_append, List.nil_append]
  after_results_simp

end Cert.Proof.K

end
-- ==== Proof.Reads.lean ====
/-
  Slices, reshapes and paddings read at an index: a column of the boxes, one number of a box, an entry at a computed
  position.
-/
module

public import proofs.«01_k».proof.Proof.HostOps
public import Idealize.ShloMosaic.Lib.DynamicIndex

@[expose] public section

noncomputable section

namespace Cert.Proof

open Idealize.ShloMosaic Idealize.ShloMosaic.ValueIdx

variable {α : Type}

/-- A reshape read at an index of the same row-major rank. -/
theorem cast_at {s t : Shape} (x : s.Idx → α) (h : s.ShapeCasts t) (j : t.Idx) (k : s.Idx)
    (e : (s.rowMajor k).val = (t.rowMajor j).val) : shapeCast t x h j = x k := by
  show x (Shape.reshapeEquiv _ j) = x k
  rw [Shape.reshapeEquiv_eq_of_rowMajor _ e]

theorem first_zero {h : 0 < (⟨0, ![]⟩ : Shape).numel} (i : (⟨0, ![]⟩ : Shape).Idx) : i = Shape.Idx.first h :=
  funext fun a => a.elim0

theorem rank0_rowMajor (i : (⟨0, ![]⟩ : Shape).Idx) : ((⟨0, ![]⟩ : Shape).rowMajor i).val = 0 := by
  have : (⟨0, ![]⟩ : Shape).numel = 1 := by simp [Shape.numel]
  omega

/-- The one entry of a vector of length one. -/
theorem cast_one_zero (x : (⟨1, ![1]⟩ : Shape).Idx → α) (h : (⟨1, ![1]⟩ : Shape).ShapeCasts ⟨0, ![]⟩) (i : (⟨0, ![]⟩ : Shape).Idx) :
    shapeCast ⟨0, ![]⟩ x h i = x (ix1 0) :=
  cast_at x h i (ix1 0) (by rw [rank0_rowMajor, Shape.rowMajor_val_one]; rfl)

/-- One number of a vector of four. -/
theorem number (v : (⟨1, ![4]⟩ : Shape).Idx → α) (k : ℕ) (hk : k < 4) (hs) (hc) (i : (⟨0, ![]⟩ : Shape).Idx) :
    shapeCast ⟨0, ![]⟩ (extractStridedSlice ⟨1, ![1]⟩ ![k] v hs) hc i = v (ix1 ⟨k, hk⟩) := by
  rw [cast_one_zero]
  unfold extractStridedSlice
  congr 1
  funext a
  match a with
  | ⟨0, _⟩ => rfl

/-- A column of the boxes. -/
theorem column {n : ℕ} (b : (⟨2, ![n, 4]⟩ : Shape).Idx → α) (k : ℕ) (hk : k < 4) (hs) (hc) (j : Fin n) :
    shapeCast ⟨1, ![n]⟩ (extractStridedSlice ⟨2, ![n, 1]⟩ ![0, k] b hs) hc (ix1 j) = b (ix2 j ⟨k, hk⟩) := by
  rw [cast_at _ hc (ix1 j) (ix2 j 0) (by
    rw [Shape.rowMajor_val_one, Shape.rowMajor_val_two]
    show j.val * 1 + 0 = j.val
    omega)]
  unfold extractStridedSlice
  congr 1
  funext a
  match a with
  | ⟨0, _⟩ => refine Fin.ext ?_; show 0 + j.val = j.val; omega
  | ⟨1, _⟩ => rfl

/-- The entry at a computed position. -/
theorem entry_slice {n : ℕ} (x : (⟨1, ![n]⟩ : Shape).Idx → α) (st : Fin 1 → ℤ) (h) (hc) (p : ℕ) (hp : p < n) (hst : st 0 = (p : ℤ))
    (i : (⟨0, ![]⟩ : Shape).Idx) : shapeCast ⟨0, ![]⟩ (Host.dynamicSlice ⟨1, ![1]⟩ x st h) hc i = x (ix1 ⟨p, hp⟩) := by
  rw [cast_one_zero]
  rw [Host.dynamicSlice_eq_extractStridedSlice ⟨1, ![1]⟩ x st ![p] h
    ⟨rfl, fun a => by match a with | ⟨0, _⟩ => show p + 1 ≤ n; omega⟩ (fun a => by match a with | ⟨0, _⟩ => exact hst)]
  unfold extractStridedSlice
  congr 1
  funext a
  match a with
  | ⟨0, _⟩ => rfl

/-- The row at a computed position. -/
theorem row_slice {n : ℕ} (x : (⟨2, ![n, 4]⟩ : Shape).Idx → α) (st : Fin 2 → ℤ) (h) (hc) (p : ℕ) (hp : p < n) (hst : st 0 = (p : ℤ))
    (hst1 : st 1 = 0) (k : Fin 4) : shapeCast ⟨1, ![4]⟩ (Host.dynamicSlice ⟨2, ![1, 4]⟩ x st h) hc (ix1 k) = x (ix2 ⟨p, hp⟩ k) := by
  rw [cast_at _ hc (ix1 k) (ix2 0 k) (by
    rw [Shape.rowMajor_val_one, Shape.rowMajor_val_two]
    show 0 * 4 + k.val = k.val
    omega)]
  rw [Host.dynamicSlice_eq_extractStridedSlice ⟨2, ![1, 4]⟩ x st ![p, 0] h
    ⟨rfl, fun a => by
      match a with
      | ⟨0, _⟩ => show p + 1 ≤ n; omega
      | ⟨1, _⟩ => show 0 + 4 ≤ 4; omega⟩ (fun a => by
      match a with
      | ⟨0, _⟩ => exact hst
      | ⟨1, _⟩ => exact hst1)]
  unfold extractStridedSlice
  congr 1
  funext a
  match a with
  | ⟨0, _⟩ => rfl
  | ⟨1, _⟩ => refine Fin.ext ?_; show 0 + k.val = k.val; omega

/-- A vector padded behind, before its end, -/
theorem pad_in {n N : ℕ} (hi : Fin 1 → ℕ) (x : (⟨1, ![n]⟩ : Shape).Idx → α) (z : (⟨0, ![]⟩ : Shape).Idx → α) (h) (hu) (j : Fin N) (hj : j.val < n) :
    pad ⟨1, ![N]⟩ ![0] hi ![0] x z h hu (ix1 j) = x (ix1 ⟨j.val, hj⟩) := by
  unfold pad
  rw [dif_pos (by
    intro a
    match a with
    | ⟨0, _⟩ =>
      show 0 ≤ j.val ∧ (j.val - 0) % 1 = 0 ∧ (j.val - 0) / 1 < n
      omega)]
  congr 1
  funext a
  match a with
  | ⟨0, _⟩ => refine Fin.ext ?_; show (j.val - 0) / 1 = j.val; omega

/-- and behind it. -/
theorem pad_out {n N : ℕ} (hi : Fin 1 → ℕ) (x : (⟨1, ![n]⟩ : Shape).Idx → α) (z : (⟨0, ![]⟩ : Shape).Idx → α) (h) (hu) (j : Fin N) (hj : n ≤ j.val) :
    pad ⟨1, ![N]⟩ ![0] hi ![0] x z h hu (ix1 j) = z (Shape.Idx.first hu) := by
  unfold pad
  rw [dif_neg (fun hin => by
    have := (hin ⟨0, Nat.zero_lt_one⟩).2.2
    have h2 : (j.val - 0) / 1 < n := this
    omega)]

/-- Rows padded behind, before their end. -/
theorem pad_rows_in {n N : ℕ} (hi : Fin 2 → ℕ) (x : (⟨2, ![n, 4]⟩ : Shape).Idx → α) (z : (⟨0, ![]⟩ : Shape).Idx → α) (h) (hu) (j : Fin N) (k : Fin 4)
    (hj : j.val < n) : pad ⟨2, ![N, 4]⟩ ![0, 0] hi ![0, 0] x z h hu (ix2 j k) = x (ix2 ⟨j.val, hj⟩ k) := by
  unfold pad
  rw [dif_pos (by
    intro a
    match a with
    | ⟨0, _⟩ =>
      show 0 ≤ j.val ∧ (j.val - 0) % 1 = 0 ∧ (j.val - 0) / 1 < n
      omega
    | ⟨1, _⟩ =>
      show 0 ≤ k.val ∧ (k.val - 0) % 1 = 0 ∧ (k.val - 0) / 1 < 4
      omega)]
  congr 1
  funext a
  match a with
  | ⟨0, _⟩ => refine Fin.ext ?_; show (j.val - 0) / 1 = j.val; omega
  | ⟨1, _⟩ => refine Fin.ext ?_; show (k.val - 0) / 1 = k.val; omega

/-- A jax index that is not negative is left as it is. -/
theorem wrap_word {s : Shape} (x w : IVec s 32) (i : s.Idx) (p : ℕ) (hp : p < 2 ^ 31) (h : x i = BitVec.ofNat 32 p) :
    select (cmpi .slt x (constantI s 32 0#32)) w x i = BitVec.ofNat 32 p := by
  rw [select_slt_zero_of_nonneg x w x i (by rw [h, toInt_word p hp]; omega), h]

end Cert.Proof

end
-- ==== Proof.KernelData.lean ====
/-
  The kernel's inputs read at a position: position `p` of the sorted arrays is the box that the order names there.
-/
module

public import proofs.«01_k».proof.Proof.KernelTrip
public import proofs.«01_k».proof.Proof.KernelHost
public import proofs.«01_k».proof.Proof.Reads
public import Idealize.ShloMosaic.Lib.Pointwise.SelectCore

@[expose] public section

noncomputable section

namespace Cert.Proof.K

open Cert.KernelIdeal Cert.KernelIdeal.Gen
open Idealize.ShloMosaic hiding ix1 ix2 ix3
open Idealize.ShloMosaic.StableHlo Idealize.ShloMosaic.ValueIdx
open Idealize.ShloMosaic.TcCoe

variable {F : FTy → Type} [FloatOps F]

/-! ## The windows are whole arrays -/

theorem emb0 (t) (y : (main_v47 : Ref sig .tc).ty.Idx) : (win0_0.blk t).view.emb y = y :=
  funext fun a => Fin.ext (win0_0.rect_emb_val_of_index_zero t a rfl y)
theorem read0 (t) (X : (main_v47 : Ref sig .tc).ty.Contents (Elt F)) : (win0_0.blk t).view.read (Elt F) X = X :=
  funext fun y => congrArg X (emb0 t y)
theorem emb1 (t) (y : (main_v28 : Ref sig .tc).ty.Idx) : (win0_1.blk t).view.emb y = y :=
  funext fun a => Fin.ext (win0_1.rect_emb_val_of_index_zero t a rfl y)
theorem read1 (t) (X : (main_v28 : Ref sig .tc).ty.Contents (Elt F)) : (win0_1.blk t).view.read (Elt F) X = X :=
  funext fun y => congrArg X (emb1 t y)
theorem emb2 (t) (y : (main_v32 : Ref sig .tc).ty.Idx) : (win0_2.blk t).view.emb y = y :=
  funext fun a => Fin.ext (win0_2.rect_emb_val_of_index_zero t a rfl y)
theorem read2 (t) (X : (main_v32 : Ref sig .tc).ty.Contents (Elt F)) : (win0_2.blk t).view.read (Elt F) X = X :=
  funext fun y => congrArg X (emb2 t y)
theorem emb3 (t) (y : (main_v36 : Ref sig .tc).ty.Idx) : (win0_3.blk t).view.emb y = y :=
  funext fun a => Fin.ext (win0_3.rect_emb_val_of_index_zero t a rfl y)
theorem read3 (t) (X : (main_v36 : Ref sig .tc).ty.Contents (Elt F)) : (win0_3.blk t).view.read (Elt F) X = X :=
  funext fun y => congrArg X (emb3 t y)
theorem emb4 (t) (y : (main_v40 : Ref sig .tc).ty.Idx) : (win0_4.blk t).view.emb y = y :=
  funext fun a => Fin.ext (win0_4.rect_emb_val_of_index_zero t a rfl y)
theorem read4 (t) (X : (main_v40 : Ref sig .tc).ty.Contents (Elt F)) : (win0_4.blk t).view.read (Elt F) X = X :=
  funext fun y => congrArg X (emb4 t y)
theorem emb5 (t) (y : (main_v43 : Ref sig .tc).ty.Idx) : (win0_5.blk t).view.emb y = y :=
  funext fun a => Fin.ext (win0_5.rect_emb_val_of_index_zero t a rfl y)
theorem read5 (t) (X : (main_v43 : Ref sig .tc).ty.Contents (Elt F)) : (win0_5.blk t).view.read (Elt F) X = X :=
  funext fun y => congrArg X (emb5 t y)
theorem emb6 (t) (y : (main_v45 : Ref sig .tc).ty.Idx) : (win0_6.blk t).view.emb y = y :=
  funext fun a => Fin.ext (win0_6.rect_emb_val_of_index_zero t a rfl y)
theorem read6 (t) (X : (main_v45 : Ref sig .tc).ty.Contents (Elt F)) : (win0_6.blk t).view.read (Elt F) X = X :=
  funext fun y => congrArg X (emb6 t y)
theorem emb7 (t) (y : (main_v6 : Ref sig .tc).ty.Idx) : (win0_7.blk t).view.emb y = y :=
  funext fun a => Fin.ext (win0_7.rect_emb_val_of_index_zero t a rfl y)
theorem read7 (t) (X : (main_v6 : Ref sig .tc).ty.Contents (Elt F)) : (win0_7.blk t).view.read (Elt F) X = X :=
  funext fun y => congrArg X (emb7 t y)
theorem emb8 (t) (y : (main_v48 : Ref sig .tc).ty.Idx) : (win0_8.blk t).view.emb y = y :=
  funext fun a => Fin.ext (win0_8.rect_emb_val_of_index_zero t a rfl y)
theorem read8 (t) (X : (main_v48 : Ref sig .tc).ty.Contents (Elt F)) : (win0_8.blk t).view.read (Elt F) X = X :=
  funext fun y => congrArg X (emb8 t y)

theorem pay3_eq (X : FVec F S157x128 .f32) : k0_pay3 X = X := funext fun x => by
  unfold k0_pay3; show X (Shape.reshapeEquiv _ x) = X x; rw [Shape.reshapeEquiv_self]
theorem pay4_eq (X : FVec F S157x128 .f32) : k0_pay4 X = X := funext fun x => by
  unfold k0_pay4; show X (Shape.reshapeEquiv _ x) = X x; rw [Shape.reshapeEquiv_self]
theorem pay5_eq (X : FVec F S157x128 .f32) : k0_pay5 X = X := funext fun x => by
  unfold k0_pay5; show X (Shape.reshapeEquiv _ x) = X x; rw [Shape.reshapeEquiv_self]
theorem pay6_eq (X : FVec F S157x128 .f32) : k0_pay6 X = X := funext fun x => by
  unfold k0_pay6; show X (Shape.reshapeEquiv _ x) = X x; rw [Shape.reshapeEquiv_self]
theorem pay7_eq (X : FVec F S157x128 .f32) : k0_pay7 X = X := funext fun x => by
  unfold k0_pay7; show X (Shape.reshapeEquiv _ x) = X x; rw [Shape.reshapeEquiv_self]

/-- A match array starts unmatched where the score exceeds the threshold. -/
theorem pay9_at (t : F .f32) (X : FVec F S157x128 .f32) (x : S157x128.Idx) :
    k0_pay9 t X x = if FloatOps.cmpf .ogt (X x) t = 1#1 then 4294967295#32 else 4294967294#32 := by
  unfold k0_pay9
  show (if FloatOps.cmpf .ogt (shapeCast S157x128 X _ x) t = 1#1 then _ else _) = _
  rw [cast_at X _ x x rfl]
  rfl

/-- The two words of the thresholds. -/
theorem word_thr (o : ℕ) (ho : o < 2) (off : Fin 2 → ℕ) (h) (hoff : off = ![0, o]) (X : (cc0_stg7_0 : Ref sig .tc).ty.Contents (Elt F)) (hp) :
    ((Memref.whole cc0_stg7_0).access (Rect.unit (s := S1x2) off S1x1.size h) : View sig .tc _ _ _).read (Elt F) X (Shape.Idx.first hp)
      = (X : FVec F S1x2 .f32) (ix2 0 ⟨o, ho⟩) := by
  subst hoff
  show X _ = X _
  congr 1
  funext a
  match a with
  | ⟨0, _⟩ => exact Subsingleton.elim (α := Fin 1) _ _
  | ⟨1, _⟩ => refine Fin.ext ?_; show o + (Shape.Idx.first hp (1 : Fin 2)).val * 1 = o; simp [Shape.Idx.first]

/-! ## Paddings and gathers -/

theorem pad_at (x : FVec F S20000 .f32) (z : FVec F S_ .f32) (p : ℕ) (hp : p < 20000) (hp' : p < 20096) : padK x z (at' p hp') = x (ix1 ⟨p, hp⟩) := by
  unfold padK
  rw [cast_at _ _ (at' p hp') (ix1 ⟨p, hp'⟩) (by
    rw [Shape.rowMajor_val_one, Shape.rowMajor_val_two]
    exact (pos_at' p hp').symm)]
  exact pad_in _ x z _ _ ⟨p, hp'⟩ hp

theorem pad_at_out (x : FVec F S20000 .f32) (z : FVec F S_ .f32) (y : S157x128.Idx) (hy : 20000 ≤ pos y) : padK x z y = z (Shape.Idx.first h_S_) := by
  unfold padK
  rw [cast_at _ _ y (ix1 ⟨pos y, pos_lt y⟩) (by
    rw [Shape.rowMajor_val_one, Shape.rowMajor_val_two]
    rfl)]
  exact pad_out _ x z _ _ ⟨pos y, pos_lt y⟩ hy

theorem pack_at (b : FVec F S20000x4 .f32) (p q : ℕ) (hp : p < 20000) (hq : q < 4) : pkAt (packK b) (4 * p + q) = b (ix2 ⟨p, hp⟩ ⟨q, hq⟩) := by
  unfold pkAt packK
  refine (cast_at _ _ _ (ix2 ⟨p, by omega⟩ ⟨q, hq⟩) ?_).trans (pad_rows_in _ b zeroK _ _ ⟨p, by omega⟩ ⟨q, hq⟩ hp)
  rw [Shape.rowMajor_val_one, Shape.rowMajor_val_two]
  show p * 4 + q = (4 * p + q) % 80384
  omega

theorem col_at (o : IVec S20000 32) (j : Fin 20000) (s : ℕ) (hs : s < 2 ^ 31) (h : o (ix1 j) = BitVec.ofNat 32 s) : colK o (ix2 j 0) = BitVec.ofNat 32 s := by
  unfold colK broadcastInDim
  have hj : (fun a : Fin 1 => (if h1 : S20000.size a = 1 then ⟨0, by omega⟩ else ⟨((ix2 j 0 : S20000x1.Idx) ((![0] : Fin 1 → Fin 2) a)).val, by
      have := bcast_S20000_S20000x1_0.2 a
      rcases this with h2 | h2
      · exact absurd h2 h1
      · rw [h2]; exact ((ix2 j 0 : S20000x1.Idx) ((![0] : Fin 1 → Fin 2) a)).isLt⟩ : Fin (S20000.size a))) = (ix1 j : S20000.Idx) := by
    funext a
    match a with
    | ⟨0, _⟩ => rfl
  refine Eq.trans (congrArg _ hj) ?_
  exact wrap_word o _ (ix1 j) s hs h

theorem box_at (a0 : FVec F S1x20000x4 .f32) (o : IVec S20000 32) (j : Fin 20000) (s : Fin 20000) (h : o (ix1 j) = BitVec.ofNat 32 s.val) (q : Fin 4) :
    boxK a0 o (ix2 j q) = a0 (ix3 0 s q) := by
  unfold boxK
  refine (gather_rows gather_S20000x4_S20000x1_S20000x4_1_0_n_n_0_1_14 _ rfl _ _ j q s.val s.isLt (by norm_num) (col_at o j s.val (by omega) h)).trans ?_
  exact cast_at _ _ _ _ (by
    rw [Shape.rowMajor_val_two, Shape.rowMajor_val_three]
    show (0 * 20000 + s.val) * 4 + q.val = s.val * 4 + q.val
    omega)

theorem score_at (a1 : FVec F S1x1x20000 .f32) (o : IVec S20000 32) (j : Fin 20000) (s : Fin 20000) (h : o (ix1 j) = BitVec.ofNat 32 s.val) :
    scoreK a1 o (at' j.val (by omega)) = a1 (ix3 0 0 s) := by
  unfold scoreK
  rw [pad_at _ _ j.val j.isLt]
  refine (gather_entries gather_S20000_S20000x1_S20000_n_0_n_n_0_1_1 _ rfl _ _ j s.val s.isLt (by norm_num) (col_at o j s.val (by omega) h)).trans ?_
  exact cast_at _ _ _ _ (by
    rw [Shape.rowMajor_val_one, Shape.rowMajor_val_three]
    show (0 * 1 + 0) * 20000 + s.val = s.val
    omega)

theorem thr_iou (a2 a3 : FVec F S1 .f32) : thrK a2 a3 (ix2 0 0) = a2 (ix1 0) := by
  unfold thrK
  rw [cast_at _ _ (ix2 0 0) (ix1 0) (by rw [Shape.rowMajor_val_one, Shape.rowMajor_val_two]; rfl)]
  rw [concatenate_pair_apply]
  refine (dif_pos (show (0 : ℕ) < 1 by omega)).trans ?_
  exact (congrArg (shapeCast S_ a2 shapeCasts_S1_S_) (first_zero (h := h_S_) _)).trans (cast_one_zero a2 _ _)

theorem thr_score (a2 a3 : FVec F S1 .f32) : thrK a2 a3 (ix2 0 1) = a3 (ix1 0) := by
  unfold thrK
  rw [cast_at _ _ (ix2 0 1) (ix1 1) (by rw [Shape.rowMajor_val_one, Shape.rowMajor_val_two]; rfl)]
  rw [concatenate_pair_apply]
  refine (dif_neg (show ¬(1 : ℕ) < 1 by omega)).trans ?_
  exact (congrArg (shapeCast S_ a3 shapeCasts_S1_S_) (first_zero (h := h_S_) _)).trans (cast_one_zero a3 _ _)

/-! ## The inputs -/

section Inputs
variable (m : (ℓ : Loc nD τ sig) → Buf (Elt F) ℓ) (c : Dev nD) (p : ℕ) (hp : p < 20000) (s : Fin 20000)
  (hs : ordK (arg1K m c) (ix1 ⟨p, hp⟩) = BitVec.ofNat 32 s.val)

include hs

theorem in_pk (q : ℕ) (hq : q < 4) : pkAt (ins (entryV m) c).pk (4 * p + q) = arg0K m c (ix3 0 s ⟨q, hq⟩) := by
  have h : (ins (entryV m) c).pk = packK (boxK (arg0K m c) (ordK (arg1K m c))) := (read0 t0_0 _).trans (entry_v47 m c)
  rw [h, pack_at _ p q hp hq, box_at _ _ ⟨p, hp⟩ s hs]

theorem in_c0 (x : S157x128.Idx) (hx : x = at' p (by omega)) : c0K (boxK (arg0K m c) (ordK (arg1K m c))) x = arg0K m c (ix3 0 s 0) := by
  unfold c0K
  rw [hx, pad_at _ _ p hp, column _ 0 (by omega), box_at _ _ ⟨p, hp⟩ s hs]
  rfl
theorem in_c1 (x : S157x128.Idx) (hx : x = at' p (by omega)) : c1K (boxK (arg0K m c) (ordK (arg1K m c))) x = arg0K m c (ix3 0 s 1) := by
  unfold c1K
  rw [hx, pad_at _ _ p hp, column _ 1 (by omega), box_at _ _ ⟨p, hp⟩ s hs]
  rfl
theorem in_c2 (x : S157x128.Idx) (hx : x = at' p (by omega)) : c2K (boxK (arg0K m c) (ordK (arg1K m c))) x = arg0K m c (ix3 0 s 2) := by
  unfold c2K
  rw [hx, pad_at _ _ p hp, column _ 2 (by omega), box_at _ _ ⟨p, hp⟩ s hs]
  rfl
theorem in_c3 (x : S157x128.Idx) (hx : x = at' p (by omega)) : c3K (boxK (arg0K m c) (ordK (arg1K m c))) x = arg0K m c (ix3 0 s 3) := by
  unfold c3K
  rw [hx, pad_at _ _ p hp, column _ 3 (by omega), box_at _ _ ⟨p, hp⟩ s hs]
  rfl

theorem in_b0 : (ins (entryV m) c).b0 (at' p (by omega)) = arg0K m c (ix3 0 s 0) := by
  have h : (ins (entryV m) c).b0 = c0K (boxK (arg0K m c) (ordK (arg1K m c))) := (pay3_eq _).trans ((read1 t0_0 _).trans (entry_v28 m c))
  rw [h, in_c0 m c p hp s hs _ rfl]
theorem in_b1 : (ins (entryV m) c).b1 (at' p (by omega)) = arg0K m c (ix3 0 s 1) := by
  have h : (ins (entryV m) c).b1 = c1K (boxK (arg0K m c) (ordK (arg1K m c))) := (pay4_eq _).trans ((read2 t0_0 _).trans (entry_v32 m c))
  rw [h, in_c1 m c p hp s hs _ rfl]
theorem in_b2 : (ins (entryV m) c).b2 (at' p (by omega)) = arg0K m c (ix3 0 s 2) := by
  have h : (ins (entryV m) c).b2 = c2K (boxK (arg0K m c) (ordK (arg1K m c))) := (pay5_eq _).trans ((read3 t0_0 _).trans (entry_v36 m c))
  rw [h, in_c2 m c p hp s hs _ rfl]
theorem in_b3 : (ins (entryV m) c).b3 (at' p (by omega)) = arg0K m c (ix3 0 s 3) := by
  have h : (ins (entryV m) c).b3 = c3K (boxK (arg0K m c) (ordK (arg1K m c))) := (pay6_eq _).trans ((read4 t0_0 _).trans (entry_v40 m c))
  rw [h, in_c3 m c p hp s hs _ rfl]

theorem in_ar : (ins (entryV m) c).ar (at' p (by omega)) = FloatOps.mulf (FloatOps.subf (arg0K m c (ix3 0 s 2)) (arg0K m c (ix3 0 s 0)))
    (FloatOps.subf (arg0K m c (ix3 0 s 3)) (arg0K m c (ix3 0 s 1))) := by
  have h : (ins (entryV m) c).ar = mulf (subf (c2K (boxK (arg0K m c) (ordK (arg1K m c)))) (c0K (boxK (arg0K m c) (ordK (arg1K m c)))))
      (subf (c3K (boxK (arg0K m c) (ordK (arg1K m c)))) (c1K (boxK (arg0K m c) (ordK (arg1K m c))))) := (pay7_eq _).trans ((read5 t0_0 _).trans (entry_v43 m c))
  rw [h]
  show FloatOps.mulf (FloatOps.subf (c2K _ _) (c0K _ _)) (FloatOps.subf (c3K _ _) (c1K _ _)) = _
  rw [in_c0 m c p hp s hs _ rfl, in_c1 m c p hp s hs _ rfl, in_c2 m c p hp s hs _ rfl, in_c3 m c p hp s hs _ rfl]

theorem start_in : g₀ (entryV m) c (at' p (by omega)) = if FloatOps.cmpf .ogt (arg1K m c (ix3 0 0 s)) (arg3K m c (ix1 0)) = 1#1 then 4294967295#32 else 4294967294#32 := by
  unfold g₀
  rw [word_thr 1 (by omega) _ _ rfl, read6, read7, entry_v45, entry_v6, pay9_at, score_at _ _ ⟨p, hp⟩ s hs]
  rw [show (⟨1, by omega⟩ : Fin 2) = 1 from rfl, thr_score]

omit hs in
theorem in_thr : (ins (entryV m) c).thr = arg2K m c (ix1 0) := by
  simp only [ins]
  rw [word_thr 0 (by omega) _ _ rfl, read7, entry_v6]
  exact thr_iou _ _

omit hs in
theorem start_out (x : S157x128.Idx) (hx : 20000 ≤ pos x) :
    g₀ (entryV m) c x = if FloatOps.cmpf .ogt (FloatOps.ofBits .f32 0xFF800000#32 : F .f32) (arg3K m c (ix1 0)) = 1#1 then 4294967295#32 else 4294967294#32 := by
  unfold g₀
  rw [word_thr 1 (by omega) _ _ rfl, read6, read7, entry_v45, entry_v6, pay9_at]
  unfold scoreK
  rw [pad_at_out _ _ x hx, show (⟨1, by omega⟩ : Fin 2) = 1 from rfl, thr_score]
  rfl

omit hs in
theorem start_word (x : S157x128.Idx) : g₀ (entryV m) c x = 4294967295#32 ∨ g₀ (entryV m) c x = 4294967294#32 := by
  unfold g₀
  rw [pay9_at]
  split
  · exact Or.inl rfl
  · exact Or.inr rfl

end Inputs

/-! ## The result -/

/-- The kernel's result array. -/
theorem final_v48 (m : (ℓ : Loc nD τ sig) → Buf (Elt F) ℓ) (kk : Dev nD → ℕ) (c : Dev nD) : (dats (entryV m) kk 0 c).arrAt 8 (cfg0 (F := F)).N
    = kRun (ins (entryV m) c) (kk c) (r₀ (entryV m) c) (g₀ (entryV m) c) :=
  (dats (entryV m) kk 0 c).arrAt_eq_of_cover 8 _ (fun t _ => (read8 t _).symm)
    (fun i => ⟨t0_0, flush0_8 _, Eq.mp (congrArg (· ∈ (win0_8.blk t0_0).view.set) (emb8 t0_0 i)) ((win0_8.blk t0_0).view.emb_mem_set i)⟩)

end Cert.Proof.K

end
-- ==== Proof.KernelEnd.lean ====
/-
  The run of the kernel program, given that its loop ends: its result as the host operations make it of the match array,
  its arguments unchanged.
-/
module

public import proofs.«01_k».proof.Proof.KernelData

@[expose] public section

noncomputable section

namespace Cert.Proof.K

open Cert.KernelIdeal Cert.KernelIdeal.Gen
open Idealize.ShloMosaic Idealize.SL.Sem
open Idealize.ShloMosaic.StableHlo
open Idealize.ShloMosaic.TcCoe

variable {F : FTy → Type} [FloatOps F]
variable (m : (ℓ : Loc nD τ sig) → Buf (Elt F) ℓ) (ρ : Dev nD → PrngReg) (kk : Dev nD → ℕ)

/-- What the kernel's launch leaves. -/
def leftV (c : Dev nD) : Valuation τ sig (Elt F) :=
  Pipeline.withArrays (cfgs (F := F) 0).spec c (entryV m c) fun w => (dats (entryV m) kk 0 c).arrAt w (cfgs (F := F) 0).N

theorem left_v48 (c : Dev nD) : leftV m kk c (Proc.devRef .tc main_v48) = kRun (ins (entryV m) c) (kk c) (r₀ (entryV m) c) (g₀ (entryV m) c) :=
  (Pipeline.withArrays_arr (cfgs (F := F) 0).spec winFacts0.arr_inj c (entryV m c) _ 8).trans (final_v48 m kk c)

theorem left_of_ne (c : Dev nD) (b : Ref sig .tc) (hb : ∀ w : Fin 9, Pipeline.arrRef (spec0) w ≠ b) :
    leftV m kk c (Proc.devRef .tc b) = entryV m c (Proc.devRef .tc b) :=
  Pipeline.withArrays_of_ne (cfgs (F := F) 0).spec c (entryV m c) _ b hb

theorem left_result (c : Dev nD) : Pipeline.afterTail₀ cfgs (dats (entryV m) kk) 0 (entryV m) postK c main_v82
    = rowsK (iotaInDim S20000 32 0) (backK (ordK (arg1K m c)) (sortedK (kRun (ins (entryV m) c) (kk c) (r₀ (entryV m) c) (g₀ (entryV m) c)))) := by
  refine (post_v82 (leftV m kk c)).trans ?_
  rw [left_v48, left_of_ne m kk c main_v0 (by decide), left_of_ne m kk c main_v10 (by decide), entry_v0, entry_v10]

theorem run_kernel (hk : ∀ c, Halts (ins (entryV m) c) (kk c) (r₀ (entryV m) c) (g₀ (entryV m) c)) :
    θ_run (defs (F := F)) (onTc (τ := τ) (main (F := F))) ⟨m, fun _ => 0, ρ⟩ (fun r => (∀ c : Dev nD,
      r.2.mem ((c.tc : Thread nD τ).loc main_v82)
        = rowsK (iotaInDim S20000 32 0) (backK (ordK (arg1K m c)) (sortedK (kRun (ins (entryV m) c) (kk c) (r₀ (entryV m) c) (g₀ (entryV m) c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, ?_, ?_, ?_, ?_⟩, h.2⟩) (run_main m ρ kk hk)
  · exact ((h.1 c).2 main_v82 (Pipeline.mem_restRefs_of _ rfl (show ∀ w : Fin 9, Pipeline.arrRef spec0 w ≠ _ from by decide))).trans (left_result m kk c)
  · exact ((h.1 c).2 main_arg0 (Pipeline.mem_restRefs_of _ rfl (show ∀ w : Fin 9, Pipeline.arrRef spec0 w ≠ _ from by decide))).trans
      ((post_arg0 (leftV m kk c)).trans ((left_of_ne m kk c main_arg0 (by decide)).trans (entry_arg0 m c)))
  · exact ((h.1 c).2 main_arg1 (Pipeline.mem_restRefs_of _ rfl (show ∀ w : Fin 9, Pipeline.arrRef spec0 w ≠ _ from by decide))).trans
      ((post_arg1 (leftV m kk c)).trans ((left_of_ne m kk c main_arg1 (by decide)).trans (entry_arg1 m c)))
  · exact ((h.1 c).2 main_arg2 (Pipeline.mem_restRefs_of _ rfl (show ∀ w : Fin 9, Pipeline.arrRef spec0 w ≠ _ from by decide))).trans
      ((post_arg2 (leftV m kk c)).trans ((left_of_ne m kk c main_arg2 (by decide)).trans (entry_arg2 m c)))
  · exact ((h.1 c).2 main_arg3 (Pipeline.mem_restRefs_of _ rfl (show ∀ w : Fin 9, Pipeline.arrRef spec0 w ≠ _ from by decide))).trans
      ((post_arg3 (leftV m kk c)).trans ((left_of_ne m kk c main_arg3 (by decide)).trans (entry_arg3 m c)))

end Cert.Proof.K

end
-- ==== Proof.Back.lean ====
/-
  The host operations after the kernel: entry `j` of the sorted match array, a position, becomes the box at that position
  of the order, and is written at the box that the order names at `j`.
-/
module

public import proofs.«01_k».proof.Proof.KernelData

@[expose] public section

noncomputable section

namespace Cert.Proof.K

open Cert.KernelIdeal Cert.KernelIdeal.Gen
open Idealize.ShloMosaic hiding ix1 ix2 ix3
open Idealize.ShloMosaic.StableHlo Idealize.ShloMosaic.ValueIdx
open Idealize.ShloMosaic.TcCoe

/-- The box that an entry of the match array stands for; the two marks stand for themselves. -/
def boxOf (σ : Equiv.Perm (Fin 20000)) (w : BitVec 32) : BitVec 32 :=
  if h : w.toNat < 20000 then BitVec.ofNat 32 (σ ⟨w.toNat, h⟩).val else w

variable (σ : Equiv.Perm (Fin 20000))

theorem boxOf_open : boxOf σ 4294967295#32 = 4294967295#32 := dif_neg (by decide)
theorem boxOf_drop : boxOf σ 4294967294#32 = 4294967294#32 := dif_neg (by decide)
theorem boxOf_word (p : Fin 20000) : boxOf σ (BitVec.ofNat 32 p.val) = BitVec.ofNat 32 (σ p).val := by
  have h : (BitVec.ofNat 32 p.val).toNat = p.val := toNat_word _ (by omega)
  unfold boxOf
  rw [dif_pos (by omega)]
  have e : (⟨(BitVec.ofNat 32 p.val).toNat, by omega⟩ : Fin 20000) = p := Fin.ext h
  rw [e]

theorem small_ne_open (p : Fin 20000) : BitVec.ofNat 32 p.val ≠ 4294967295#32 := pos_word_ne _ (by omega)

/-- Only the unmatched mark stands for itself as unmatched. -/
theorem boxOf_eq_open {w : BitVec 32} (hw : Entry w) : boxOf σ w = 4294967295#32 ↔ w = 4294967295#32 := by
  rcases hw with rfl | rfl | ⟨p, rfl⟩
  · rw [boxOf_open]
  · rw [boxOf_drop]
  · rw [boxOf_word]
    exact ⟨fun h => absurd h (small_ne_open _), fun h => absurd h (small_ne_open _)⟩

/-- A position is its own clamp into the array. -/
theorem clamp_word (p : ℕ) (hp : p < 20000) : IntOp.minsi 19999#32 (IntOp.maxsi 0#32 (BitVec.ofNat 32 p)) = BitVec.ofNat 32 p := by
  have h1 : IntOp.maxsi 0#32 (BitVec.ofNat 32 p) = BitVec.ofNat 32 p := by
    unfold IntOp.maxsi
    rw [BitVec.slt_eq_decide, toInt_word p (by omega)]
    rw [if_neg]
    simp
  rw [h1]
  unfold IntOp.minsi
  rw [BitVec.slt_eq_decide, toInt_word p (by omega), if_neg]
  have : (19999#32 : BitVec 32).toInt = 19999 := toInt_word 19999 (by norm_num)
  rw [this]
  simp
  omega

variable (o v : IVec S20000 32) (hσ : ∀ k : Fin 20000, o (ix1 k) = BitVec.ofNat 32 (σ k).val)

include hσ in
theorem keeper_at (j : Fin 20000) (hv : Entry (v (ix1 j))) : keeperK o v (ix1 j) = boxOf σ (v (ix1 j)) := by
  unfold keeperK
  show (if IntOp.cmpi .sge (v (ix1 j)) 0#32 = 1#1 then _ else v (ix1 j)) = _
  rcases hv with h | h | ⟨p, h⟩
  · rw [h, boxOf_open, if_neg (by decide)]
  · rw [h, boxOf_drop, if_neg (by decide)]
  · rw [h, boxOf_word, if_pos (sge_zero_word _ (by omega))]
    refine (gather_entries gather_S20000_S20000x1_S20000_n_0_n_n_0_1_1 _ rfl o _ j p.val p.isLt (by norm_num)
      (col_at _ j p.val (by omega) ?_)).trans (hσ p)
    show IntOp.minsi 19999#32 (IntOp.maxsi 0#32 (v (ix1 j))) = _
    rw [h, clamp_word p.val p.isLt]

include hσ in
theorem back_at (j : Fin 20000) (hv : Entry (v (ix1 j))) : backK o v (ix1 (σ j)) = boxOf σ (v (ix1 j)) := by
  have hc : ∀ i : Fin 20000, (colK o (ix2 i 0)).toInt = ((σ i).val : ℤ) := fun i => by
    rw [col_at o i (σ i).val (by omega) (hσ i), toInt_word _ (by omega)]
  refine (Routing.scatter_set_signed scatter_S20000_S20000x1_S20000_n_0_0_1 rfl rfl rfl (fillK 0#32) (colK o) (keeperK o v) (σ j)
    (boxOf σ (v (ix1 j))) fun i hi => ?_).1 ⟨j, hc j⟩
  have h : (σ i).val = (σ j).val := by
    have := (hc i).symm.trans hi
    omega
  obtain rfl : i = j := σ.injective (Fin.ext h)
  exact keeper_at σ o v hσ i hv

/-- The sorted match vector is the match array's first positions. -/
theorem sorted_at (g : IVec S157x128 32) (j : Fin 20000) : sortedK g (ix1 j) = g (at' j.val (by omega)) := by
  unfold sortedK extractStridedSlice
  refine cast_at g _ _ (at' j.val (by omega)) ?_
  rw [Shape.rowMajor_val_one, Shape.rowMajor_val_two]
  show pos (at' j.val _) = 0 + j.val
  rw [pos_at']
  omega

end Cert.Proof.K

end
-- ==== Proof.RefRead.lean ====
/-
  The reference program read: what its loop starts from, what one trip does to an entry, and the pairs made of the final
  match vector.
-/
module

public import proofs.«01_k».proof.Proof.Gen.ReferenceIdeal.Run
public import proofs.«01_k».proof.Proof.Reads
public import proofs.«01_k».proof.Proof.NextIndex

@[expose] public section

noncomputable section

namespace Cert.Proof.R

open Cert.ReferenceIdeal Cert.ReferenceIdeal.Gen Cert.ReferenceIdeal.Value
open Idealize.ShloMosaic Idealize.ShloMosaic.StableHlo Idealize.ShloMosaic.ValueIdx
open Idealize.ShloMosaic.TcCoe

variable {F : FTy → Type} [FloatOps F]

/-! ## Before the loop -/

section Entry
variable (m : (ℓ : Loc nD τ sig) → Buf (Elt F) ℓ) (c : Dev nD)

/-- The arguments. -/
abbrev arg0R : FVec F S1x20000x4 .f32 := m (c, Proc.devRef .tc main_arg0)
abbrev arg1R : FVec F S1x1x20000 .f32 := m (c, Proc.devRef .tc main_arg1)
abbrev arg2R : FVec F S1 .f32 := m (c, Proc.devRef .tc main_arg2)
abbrev arg3R : FVec F S1 .f32 := m (c, Proc.devRef .tc main_arg3)

/-- The order by descending score, the boxes, and the match vector at the start. -/
def ordR (a1 : FVec F S1x1x20000 .f32) : IVec S20000 32 :=
  (Host.sort2 S20000 0 comparator_f32_i32_d0 (Host.negf (shapeCast S20000 a1 shapeCasts_S1x1x20000_S20000)) (iotaInDim S20000 32 0)).2
def boxR (a0 : FVec F S1x20000x4 .f32) : FVec F S20000x4 .f32 := shapeCast S20000x4 a0 shapeCasts_S1x20000x4_S20000x4
def startR (a1 : FVec F S1x1x20000 .f32) (a3 : FVec F S1 .f32) : IVec S20000 32 :=
  select (cmpf .ogt (shapeCast S20000 a1 shapeCasts_S1x1x20000_S20000) (broadcastInDim S20000 ![] bcast_S_S20000 (shapeCast S_ a3 shapeCasts_S1_S_)))
    (broadcastInDim S20000 ![] bcast_S_S20000 (constantI S_ 32 4294967295#32)) (broadcastInDim S20000 ![] bcast_S_S20000 (constantI S_ 32 4294967294#32))

abbrev entryR : Valuation τ sig (Elt F) := entryContents preI m c

theorem entry_order : entryR m c (Proc.devRef .tc main_v10_0) = ordR (arg1R m c) := by
  simp only [entryR, entryContents, afterL_eq_after_flatten, preI, List.flatten_cons, List.flatten_nil, List.append_nil, List.cons_append, List.nil_append]
  after_results_simp
  rfl

theorem entry_boxes : entryR m c (Proc.devRef .tc main_v10_1) = boxR (arg0R m c) := by
  simp only [entryR, entryContents, afterL_eq_after_flatten, preI, List.flatten_cons, List.flatten_nil, List.append_nil, List.cons_append, List.nil_append]
  after_results_simp
  rfl

theorem entry_thr : entryR m c (Proc.devRef .tc main_v10_2) = (shapeCast S_ (arg2R m c) shapeCasts_S1_S_ : FVec F S_ .f32) := by
  simp only [entryR, entryContents, afterL_eq_after_flatten, preI, List.flatten_cons, List.flatten_nil, List.append_nil, List.cons_append, List.nil_append]
  after_results_simp
  rfl

theorem entry_trip : entryR m c (Proc.devRef .tc main_v10_4) = (constantI S_ 32 0#32 : IVec S_ 32) := by
  simp only [entryR, entryContents, afterL_eq_after_flatten, preI, List.flatten_cons, List.flatten_nil, List.append_nil, List.cons_append, List.nil_append]
  after_results_simp
  rfl

theorem entry_match : entryR m c (Proc.devRef .tc main_v10_5) = startR (arg1R m c) (arg3R m c) := by
  simp only [entryR, entryContents, afterL_eq_after_flatten, preI, List.flatten_cons, List.flatten_nil, List.append_nil, List.cons_append, List.nil_append]
  after_results_simp
  rfl

end Entry

/-! ## One trip -/

/-- The overlap of a box `a` and a box `b` as the reference computes it: the area of the intersection, -/
def interR (a0 a1 a2 a3 b0 b1 b2 b3 : F .f32) : F .f32 :=
  FloatOps.mulf (FloatOps.maximumf (FloatOps.ofBits .f32 0x00000000#32) (FloatOps.subf (FloatOps.minimumf a2 b2) (FloatOps.maximumf a0 b0)))
    (FloatOps.maximumf (FloatOps.ofBits .f32 0x00000000#32) (FloatOps.subf (FloatOps.minimumf a3 b3) (FloatOps.maximumf a1 b1)))

/-- and its test against the threshold. -/
def overR (thr a0 a1 a2 a3 b0 b1 b2 b3 : F .f32) : BitVec 1 :=
  FloatOps.cmpf .ogt (FloatOps.hostDivf (interR a0 a1 a2 a3 b0 b1 b2 b3)
    (FloatOps.addf (FloatOps.subf (FloatOps.addf (FloatOps.mulf (FloatOps.subf a2 a0) (FloatOps.subf a3 a1)) (FloatOps.mulf (FloatOps.subf b2 b0) (FloatOps.subf b3 b1)))
      (interR a0 a1 a2 a3 b0 b1 b2 b3)) (FloatOps.ofBits .f32 0x2EDBE6FF#32))) thr

section Trip
variable (V : Valuation τ sig (Elt F)) (B : FVec F S20000x4 .f32) (t : FVec F S_ .f32) (M : IVec S20000 32) (k s : Fin 20000)
  (hB : V (Proc.devRef .tc main_v10_1) = B) (ht : V (Proc.devRef .tc main_v10_2) = t) (hM : V (Proc.devRef .tc main_v10_5) = M)
  (hk : (V (Proc.devRef .tc main_v10_4) : IVec S_ 32) = constantI S_ 32 (BitVec.ofNat 32 k.val))
  (hs : (V (Proc.devRef .tc main_v10_0) : IVec S20000 32) (ix1 k) = BitVec.ofNat 32 s.val)

include hk hs

/-- The trip's box is the `k`-th of the order, -/
theorem trip_box : (res_main_while0b_v30 V : IVec S_ 32) = constantI S_ 32 (BitVec.ofNat 32 s.val) := by
  funext i
  unfold res_main_while0b_v30
  refine (entry_slice _ _ _ _ k.val k.isLt ?_ i).trans hs
  show BitVec.toInt (select _ _ _ _) = _
  rw [wrap_word _ _ _ k.val (by omega) (by rw [hk]; rfl), toInt_word _ (by omega)]

include hB in
theorem trip_row (j : Fin 4) : (res_main_while0b_v44 V : FVec F S4 .f32) (ix1 j) = B (ix2 s j) := by
  unfold res_main_while0b_v44
  rw [hB]
  refine row_slice _ _ _ _ s.val s.isLt ?_ ?_ j
  · show BitVec.toInt (select _ _ _ _) = _
    rw [wrap_word _ _ _ s.val (by omega) (by rw [trip_box V k s hk hs]; rfl), toInt_word _ (by omega)]
  · rfl

include hB in
/-- A number of the trip's box spread over the vector. -/
theorem trip_number (n : ℕ) (hn : n < 4) (hsl) (x : S20000.Idx) :
    (broadcastInDim S20000 ![] bcast_S_S20000 (shapeCast S_ (extractStridedSlice S1 ![n] (res_main_while0b_v44 V : FVec F S4 .f32) hsl) shapeCasts_S1_S_) : FVec F S20000 .f32) x
      = B (ix2 s ⟨n, hn⟩) := by
  unfold broadcastInDim
  rw [number _ n hn, trip_row V B k s hB hk hs]

include hB in
theorem trip_inter (j : Fin 20000) : (res_main_while0b_v73 V : FVec F S20000 .f32) (ix1 j)
    = interR (B (ix2 s 0)) (B (ix2 s 1))
        (B (ix2 s 2)) (B (ix2 s 3))
        (B (ix2 j 0)) (B (ix2 j 1))
        (B (ix2 j 2)) (B (ix2 j 3)) := by
  unfold res_main_while0b_v73 interR
  rw [hB]
  simp only [mulf, maximumf, minimumf, subf]
  rw [trip_number V B k s hB hk hs 2 (by omega), trip_number V B k s hB hk hs 0 (by omega), trip_number V B k s hB hk hs 3 (by omega), trip_number V B k s hB hk hs 1 (by omega),
    column _ 2 (by omega), column _ 0 (by omega), column _ 3 (by omega), column _ 1 (by omega)]
  rfl

include hB ht hM in
/-- The trip matches the unmatched boxes that its own, unmatched, box overlaps. -/
theorem trip_match (j : Fin 20000) : (step_main_v10_5 V : IVec S20000 32) (ix1 j)
    = if M (ix1 s) = 4294967295#32 ∧ M (ix1 j) = 4294967295#32
          ∧ overR (t (Shape.Idx.first h_S_))
            (B (ix2 s 0)) (B (ix2 s 1))
            (B (ix2 s 2)) (B (ix2 s 3))
            (B (ix2 j 0)) (B (ix2 j 1))
            (B (ix2 j 2)) (B (ix2 j 3)) = 1#1
        then BitVec.ofNat 32 s.val else M (ix1 j) := by
  have hown : ∀ x : S20000.Idx, broadcastInDim S20000 ![] bcast_S_S20000 (cmpi .eq (shapeCast S_ (Host.dynamicSlice S1 M
      (fun k => (((![select (cmpi .slt (res_main_while0b_v30 V) (constantI S_ 32 0#32)) (addi (res_main_while0b_v30 V) (constantI S_ 32 20000#32)) (res_main_while0b_v30 V)] : Fin 1 → (⟨S_, .i32⟩ : BufTy).Contents (Elt F))) k (Shape.Idx.first h_S_)).toInt) sliceFits_S20000_S1) shapeCasts_S1_S_) (constantI S_ 32 4294967295#32)) x
      = IntOp.cmpi .eq (M (ix1 s)) 4294967295#32 := by
    intro x
    show IntOp.cmpi .eq (shapeCast S_ _ shapeCasts_S1_S_ _) _ = _
    rw [entry_slice _ _ _ _ s.val s.isLt (by
      show BitVec.toInt (select _ _ _ _) = _
      rw [wrap_word _ _ _ s.val (by omega) (by rw [trip_box V k s hk hs]; rfl), toInt_word _ (by omega)])]
    rfl
  have hidx : ∀ x : S20000.Idx, broadcastInDim S20000 ![] bcast_S_S20000 (res_main_while0b_v30 V : IVec S_ 32) x = BitVec.ofNat 32 s.val := by
    intro x
    rw [trip_box V k s hk hs]
    rfl
  have harea : ∀ x : S20000.Idx, (broadcastInDim S20000 ![] bcast_S_S20000 (mulf (subf (shapeCast S_ (extractStridedSlice S1 ![2] (res_main_while0b_v44 V : FVec F S4 .f32) slices_S4_S1_2) shapeCasts_S1_S_) (shapeCast S_ (extractStridedSlice S1 ![0] (res_main_while0b_v44 V : FVec F S4 .f32) slices_S4_S1_0) shapeCasts_S1_S_))
      (subf (shapeCast S_ (extractStridedSlice S1 ![3] (res_main_while0b_v44 V : FVec F S4 .f32) slices_S4_S1_3) shapeCasts_S1_S_) (shapeCast S_ (extractStridedSlice S1 ![1] (res_main_while0b_v44 V : FVec F S4 .f32) slices_S4_S1_1) shapeCasts_S1_S_))) : FVec F S20000 .f32) x
      = FloatOps.mulf (FloatOps.subf (B (ix2 s 2)) (B (ix2 s 0)))
          (FloatOps.subf (B (ix2 s 3)) (B (ix2 s 1))) := by
    intro x
    unfold broadcastInDim
    simp only [mulf, subf]
    rw [number _ 2 (by omega), number _ 0 (by omega), number _ 3 (by omega), number _ 1 (by omega),
      trip_row V B k s hB hk hs, trip_row V B k s hB hk hs, trip_row V B k s hB hk hs, trip_row V B k s hB hk hs]
    rfl
  have hX := trip_inter V B k s hB hk hs j
  unfold step_main_v10_5
  rw [hB, ht, hM]
  show (if (_ : BitVec 1) = 1#1 then (if IntOp.andi (IntOp.cmpi .eq (M (ix1 j)) 4294967295#32) (FloatOps.cmpf .ogt (FloatOps.hostDivf (res_main_while0b_v73 V (ix1 j))
    (FloatOps.addf (FloatOps.subf (FloatOps.addf (_ : F .f32) (FloatOps.mulf (FloatOps.subf (shapeCast S20000 (extractStridedSlice S20000x1 ![0, 2] B slices_S20000x4_S20000x1_0_2) shapeCasts_S20000x1_S20000 (ix1 j)) (shapeCast S20000 (extractStridedSlice S20000x1 ![0, 0] B slices_S20000x4_S20000x1_0_0) shapeCasts_S20000x1_S20000 (ix1 j)))
      (FloatOps.subf (shapeCast S20000 (extractStridedSlice S20000x1 ![0, 3] B slices_S20000x4_S20000x1_0_3) shapeCasts_S20000x1_S20000 (ix1 j)) (shapeCast S20000 (extractStridedSlice S20000x1 ![0, 1] B slices_S20000x4_S20000x1_0_1) shapeCasts_S20000x1_S20000 (ix1 j)))))
      (res_main_while0b_v73 V (ix1 j))) (FloatOps.ofBits .f32 0x2EDBE6FF#32))) (_ : F .f32)) = 1#1 then (_ : BitVec 32) else M (ix1 j)) else M (ix1 j)) = _
  refine (if_congr (Iff.of_eq (congrArg (fun b => b = 1#1) (hown (ix1 j)))) (if_congr (Iff.of_eq (congrArg (fun b => IntOp.andi _ (FloatOps.cmpf .ogt
    (FloatOps.hostDivf _ (FloatOps.addf (FloatOps.subf (FloatOps.addf b _) _) _)) _) = 1#1) (harea (ix1 j)))) (hidx (ix1 j)) rfl) rfl).trans ?_
  have hthr : (broadcastInDim S20000 ![] bcast_S_S20000 t : FVec F S20000 .f32) (ix1 j) = t (Shape.Idx.first h_S_) := congrArg t (first_zero _)
  rw [hthr, hX, column B 2 (by omega), column B 0 (by omega), column B 3 (by omega), column B 1 (by omega)]
  have hand : ∀ {a b : BitVec 1}, IntOp.andi a b = 1#1 ↔ a = 1#1 ∧ b = 1#1 := by
    intro a b
    revert a b
    decide
  by_cases h1 : M (ix1 s) = 4294967295#32
  · rw [if_pos (K.cmpi_eq_one.2 h1)]
    refine if_congr ?_ rfl rfl
    rw [hand, K.cmpi_eq_one]
    exact ⟨fun h => ⟨h1, h.1, h.2⟩, fun h => ⟨h.2.1, h.2.2⟩⟩
  · rw [if_neg (fun h => h1 (K.cmpi_eq_one.1 h)), if_neg (fun h => h1 h.1)]

end Trip

/-! ## All trips -/

section Trips
variable (m : (ℓ : Loc nD τ sig) → Buf (Elt F) ℓ) (c : Dev nD)

/-- The carried buffers before trip `k`. -/
abbrev atR (k : ℕ) : Valuation τ sig (Elt F) := STEP^[k] (entryR m c)

theorem atR_succ (k : ℕ) : atR m c (k + 1) = STEP (atR m c k) := Function.iterate_succ_apply' ..

theorem at_order (k : ℕ) : atR m c k (Proc.devRef .tc main_v10_0) = ordR (arg1R m c) := by
  induction k with
  | zero => exact entry_order m c
  | succ k ih => rw [atR_succ, STEP_main_v10_0, ih]

theorem at_boxes (k : ℕ) : atR m c k (Proc.devRef .tc main_v10_1) = boxR (arg0R m c) := by
  induction k with
  | zero => exact entry_boxes m c
  | succ k ih => rw [atR_succ, STEP_main_v10_1, ih]

theorem at_thr (k : ℕ) : atR m c k (Proc.devRef .tc main_v10_2) = (shapeCast S_ (arg2R m c) shapeCasts_S1_S_ : FVec F S_ .f32) := by
  induction k with
  | zero => exact entry_thr m c
  | succ k ih => rw [atR_succ, STEP_main_v10_2, ih]

theorem at_trip (k : ℕ) : atR m c k (Proc.devRef .tc main_v10_4) = (constantI S_ 32 (BitVec.ofNat 32 k) : IVec S_ 32) := by
  induction k with
  | zero => exact entry_trip m c
  | succ k ih =>
    rw [atR_succ, STEP_main_v10_4]
    unfold step_main_v10_4
    rw [ih]
    funext i
    show BitVec.ofNat 32 k + 1#32 = BitVec.ofNat 32 (k + 1)
    rw [BitVec.ofNat_add]

/-- The match vector before trip `k`. -/
abbrev matchR (k : ℕ) : IVec S20000 32 := atR m c k (Proc.devRef .tc main_v10_5)

theorem match_zero : matchR m c 0 = startR (arg1R m c) (arg3R m c) := entry_match m c

theorem match_succ (k s j : Fin 20000) (hs : ordR (arg1R m c) (ix1 k) = BitVec.ofNat 32 s.val) :
    matchR m c (k.val + 1) (ix1 j) = if matchR m c k.val (ix1 s) = 4294967295#32 ∧ matchR m c k.val (ix1 j) = 4294967295#32
          ∧ overR (arg2R m c (ix1 0)) (arg0R m c (ix3 0 s 0)) (arg0R m c (ix3 0 s 1)) (arg0R m c (ix3 0 s 2)) (arg0R m c (ix3 0 s 3))
            (arg0R m c (ix3 0 j 0)) (arg0R m c (ix3 0 j 1)) (arg0R m c (ix3 0 j 2)) (arg0R m c (ix3 0 j 3)) = 1#1
        then BitVec.ofNat 32 s.val else matchR m c k.val (ix1 j) := by
  have hb : ∀ (p : Fin 20000) (q : Fin 4), boxR (arg0R m c) (ix2 p q) = arg0R m c (ix3 0 p q) := fun p q =>
    cast_at _ _ _ _ (by
      rw [Shape.rowMajor_val_two, Shape.rowMajor_val_three]
      show (0 * 20000 + p.val) * 4 + q.val = p.val * 4 + q.val
      omega)
  have h := trip_match (atR m c k.val) _ _ _ k s (at_boxes m c _) (at_thr m c _) rfl (at_trip m c _) (by rw [at_order]; exact hs) j
  rw [cast_one_zero, hb, hb, hb, hb, hb, hb, hb, hb] at h
  rw [← h]
  show atR m c (k.val + 1) (Proc.devRef .tc main_v10_5) (ix1 j) = _
  rw [atR_succ, STEP_main_v10_5]

end Trips

/-! ## After the loop -/

/-- A word on every position. -/
def fillR (w : BitVec 32) : IVec S20000 32 := broadcastInDim S20000 ![] bcast_S_S20000 (constantI S_ 32 w)

/-- The pairs of a match vector. -/
def rowsR (i : IVec S20000 32) (a : IVec S20000 32) : IVec S20000x4 32 :=
  select (broadcastInDim S20000x4 ![0, 1] bcast_S20000x1_S20000x4_0_1 (broadcastInDim S20000x1 ![0] bcast_S20000_S20000x1_0
      (andi (cmpi .sge a (fillR 0#32)) (cmpi .ne a i))))
    (concatenate S20000x4 1 [⟨S20000x1, broadcastInDim S20000x1 ![0] bcast_S20000_S20000x1_0 (fillR 0#32)⟩,
      ⟨S20000x1, broadcastInDim S20000x1 ![0] bcast_S20000_S20000x1_0 (fillR 0#32)⟩,
      ⟨S20000x1, broadcastInDim S20000x1 ![0] bcast_S20000_S20000x1_0 a⟩,
      ⟨S20000x1, broadcastInDim S20000x1 ![0] bcast_S20000_S20000x1_0 i⟩] concatenates_S20000x1_S20000x1_S20000x1_S20000x1_S20000x4_d1)
    (broadcastInDim S20000x4 ![] bcast_S_S20000x4 (constantI S_ 32 4294967295#32))

/-- The columns of the pairs, -/
abbrev tailB : List (HloOp τ sig (Elt F)) := (hostOps0_5 (F := F)).take 13

/-- and the pairs. -/
abbrev tailC : List (HloOp τ sig (Elt F)) := (hostOps0_5 (F := F)).drop 13 ++ hostOps0_6

section Tail
variable (X : Valuation τ sig (Elt F))

theorem tailB_v17 : after (tailB (F := F)) X (Proc.devRef .tc main_v17)
    = (broadcastInDim S20000x1 ![0] bcast_S20000_S20000x1_0 (fillR 0#32) : IVec S20000x1 32) := by
  simp only [tailB, List.take_succ_cons, List.take_zero]
  after_results_simp
  rfl
theorem tailB_v18 : after (tailB (F := F)) X (Proc.devRef .tc main_v18)
    = (broadcastInDim S20000x1 ![0] bcast_S20000_S20000x1_0 (fillR 0#32) : IVec S20000x1 32) := by
  simp only [tailB, List.take_succ_cons, List.take_zero]
  after_results_simp
  rfl
theorem tailB_v19 : after (tailB (F := F)) X (Proc.devRef .tc main_v19)
    = (broadcastInDim S20000x1 ![0] bcast_S20000_S20000x1_0 (X (Proc.devRef .tc main_v10_5)) : IVec S20000x1 32) := by
  simp only [tailB, List.take_succ_cons, List.take_zero]
  after_results_simp
theorem tailB_v20 : after (tailB (F := F)) X (Proc.devRef .tc main_v20)
    = (broadcastInDim S20000x1 ![0] bcast_S20000_S20000x1_0 (X (Proc.devRef .tc main_v2)) : IVec S20000x1 32) := by
  simp only [tailB, List.take_succ_cons, List.take_zero]
  after_results_simp
theorem tailB_v14 : after (tailB (F := F)) X (Proc.devRef .tc main_v14)
    = (andi (cmpi .sge (X (Proc.devRef .tc main_v10_5)) (fillR 0#32)) (cmpi .ne (X (Proc.devRef .tc main_v10_5)) (X (Proc.devRef .tc main_v2))) : IVec S20000 1) := by
  simp only [tailB, List.take_succ_cons, List.take_zero]
  after_results_simp
  rfl

theorem tailC_v23 : after (tailC (F := F)) X (Proc.devRef .tc main_v23)
    = (select (broadcastInDim S20000x4 ![0, 1] bcast_S20000x1_S20000x4_0_1 (broadcastInDim S20000x1 ![0] bcast_S20000_S20000x1_0
      (X (Proc.devRef .tc main_v14) : IVec S20000 1)))
    (concatenate S20000x4 1 [⟨S20000x1, (X (Proc.devRef .tc main_v17) : IVec S20000x1 32)⟩, ⟨S20000x1, (X (Proc.devRef .tc main_v18) : IVec S20000x1 32)⟩,
      ⟨S20000x1, (X (Proc.devRef .tc main_v19) : IVec S20000x1 32)⟩, ⟨S20000x1, (X (Proc.devRef .tc main_v20) : IVec S20000x1 32)⟩] concatenates_S20000x1_S20000x1_S20000x1_S20000x1_S20000x4_d1)
    (broadcastInDim S20000x4 ![] bcast_S_S20000x4 (constantI S_ 32 4294967295#32)) : IVec S20000x4 32) := by
  simp only [tailC, List.drop_succ_cons, List.drop_zero, List.cons_append, List.nil_append]
  after_results_simp
  rfl

theorem tail_v23 : afterL (postI (F := F)) X (Proc.devRef .tc main_v23) = rowsR (X (Proc.devRef .tc main_v2)) (X (Proc.devRef .tc main_v10_5)) := by
  have h : (postI (F := F)).flatten = tailB ++ tailC := by rfl
  rw [afterL_eq_after_flatten, h, StableHlo.after_append, tailC_v23, tailB_v14, tailB_v17, tailB_v18, tailB_v19, tailB_v20]
  rfl

end Tail

end Cert.Proof.R

end
-- ==== Proof.RefRun.lean ====
/-
  The reference program's run: it ends with the pairs of the match vector after all 20000 trips, and with its arguments as
  they were.
-/
module

public import proofs.«01_k».proof.Proof.RefRead
public import Idealize.ShloMosaic.Lib.Claim

@[expose] public section

noncomputable section

namespace Cert.Proof.R

open Cert.ReferenceIdeal Cert.ReferenceIdeal.Gen Cert.ReferenceIdeal.Value
open Idealize.ShloMosaic Idealize.ShloMosaic.StableHlo Idealize.ShloMosaic.ValueIdx
open Idealize.ShloMosaic.TcCoe
open Idealize.SL Idealize.SL.RA Idealize.SL.BI Idealize.SL.Sem

variable {F : FTy → Type} [FloatOps F]
variable (m : (ℓ : Loc nD τ sig) → Buf (Elt F) ℓ) (ρ : Dev nD → PrngReg) (c : Dev nD)

/-- The buffers that the loop writes. -/
abbrev loopW : List (Ref sig .tc) :=
  condOps_W ++ (while0Ops0_W ++ (while0Ops0_1_W ++ (while0Ops0_2_W ++ (while0Ops0_3_W ++ (while0Ops0_4_W ++ (while0Ops0_5_W ++ (while0Ops0_6_W ++ while0Ops0_7_W)))))))

/-- The loop leaves every other buffer. -/
theorem loop_keeps (r : Ref sig .tc) (hr : r ∉ loopW) (k : ℕ) :
    after condOps (atTrip condOps bodyI (entryR m) k c) (Proc.devRef .tc r) = entryR m c (Proc.devRef .tc r) := by
  simp only [loopW, List.mem_append, not_or] at hr
  obtain ⟨hc, h0, h1, h2, h3, h4, h5, h6, h7⟩ := hr
  induction k with
  | zero => exact after_of_writes_sub condOps _ condOps_writes hc
  | succ k ih =>
    rw [after_of_writes_sub condOps _ condOps_writes hc, atTrip_succ]
    simp only [bodyI, afterL_cons, afterL_nil]
    rw [after_of_writes_sub _ _ while0Ops0_7_writes h7, after_of_writes_sub _ _ while0Ops0_6_writes h6, after_of_writes_sub _ _ while0Ops0_5_writes h5,
      after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0]
    exact ih

theorem entry_iota : entryR m c (Proc.devRef .tc main_v2) = (iotaInDim S20000 32 0 : IVec S20000 32) := by
  simp only [entryR, entryContents, afterL_eq_after_flatten, preI, List.flatten_cons, List.flatten_nil, List.append_nil, List.cons_append, List.nil_append]
  after_results_simp

theorem entry_arg0 : entryR m c (Proc.devRef .tc main_arg0) = m (c, Proc.devRef .tc main_arg0) := by
  simp only [entryR, entryContents, afterL_eq_after_flatten, preI, List.flatten_cons, List.flatten_nil, List.append_nil, List.cons_append, List.nil_append]
  after_results_simp
theorem entry_arg1 : entryR m c (Proc.devRef .tc main_arg1) = m (c, Proc.devRef .tc main_arg1) := by
  simp only [entryR, entryContents, afterL_eq_after_flatten, preI, List.flatten_cons, List.flatten_nil, List.append_nil, List.cons_append, List.nil_append]
  after_results_simp
theorem entry_arg2 : entryR m c (Proc.devRef .tc main_arg2) = m (c, Proc.devRef .tc main_arg2) := by
  simp only [entryR, entryContents, afterL_eq_after_flatten, preI, List.flatten_cons, List.flatten_nil, List.append_nil, List.cons_append, List.nil_append]
  after_results_simp
theorem entry_arg3 : entryR m c (Proc.devRef .tc main_arg3) = m (c, Proc.devRef .tc main_arg3) := by
  simp only [entryR, entryContents, afterL_eq_after_flatten, preI, List.flatten_cons, List.flatten_nil, List.append_nil, List.cons_append, List.nil_append]
  after_results_simp

theorem tail_arg0 (X : Valuation τ sig (Elt F)) : afterL (postI (F := F)) X (Proc.devRef .tc main_arg0) = X (Proc.devRef .tc main_arg0) := by
  simp only [afterL_eq_after_flatten, postI, List.flatten_cons, List.flatten_nil, List.append_nil, List.cons_append, List.nil_append]
  after_results_simp
theorem tail_arg1 (X : Valuation τ sig (Elt F)) : afterL (postI (F := F)) X (Proc.devRef .tc main_arg1) = X (Proc.devRef .tc main_arg1) := by
  simp only [afterL_eq_after_flatten, postI, List.flatten_cons, List.flatten_nil, List.append_nil, List.cons_append, List.nil_append]
  after_results_simp
theorem tail_arg2 (X : Valuation τ sig (Elt F)) : afterL (postI (F := F)) X (Proc.devRef .tc main_arg2) = X (Proc.devRef .tc main_arg2) := by
  simp only [afterL_eq_after_flatten, postI, List.flatten_cons, List.flatten_nil, List.append_nil, List.cons_append, List.nil_append]
  after_results_simp
theorem tail_arg3 (X : Valuation τ sig (Elt F)) : afterL (postI (F := F)) X (Proc.devRef .tc main_arg3) = X (Proc.devRef .tc main_arg3) := by
  simp only [afterL_eq_after_flatten, postI, List.flatten_cons, List.flatten_nil, List.append_nil, List.cons_append, List.nil_append]
  after_results_simp

/-- The reference's result. -/
theorem final_v23 : finalContents condOps preI bodyI postI 20000 m c (Proc.devRef .tc main_v23) = rowsR (iotaInDim S20000 32 0) (matchR m c 20000) := by
  unfold finalContents
  rw [tail_v23]
  have h2 := loop_keeps m c main_v2 (by decide +kernel) 20000
  have h5 := (cond_keeps (atTrip condOps bodyI (entryR m) 20000 c) main_v10_5 (by decide)).trans (atK_agree m c 20000 main_v10_5 (by decide))
  rw [h2, h5, entry_iota]

/-- The run. -/
theorem run_ref : θ_run (defs (F := F)) (onTc (τ := τ) (main (F := F))) ⟨m, fun _ => 0, ρ⟩ (fun r => (∀ c : Dev nD,
      r.2.mem ((c.tc : Thread nD τ).loc main_v23) = rowsR (iotaInDim S20000 32 0) (matchR m c 20000)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, ?_, ?_, ?_, ?_⟩, sem_eq_zero_of_no_sems (by decide) r.2⟩) (run_fold m ρ)
  · exact (h c main_v23 rfl).trans (final_v23 m c)
  · refine (h c main_arg0 rfl).trans ?_
    unfold finalContents
    rw [tail_arg0, loop_keeps m c main_arg0 (by decide +kernel) 20000, entry_arg0]
  · refine (h c main_arg1 rfl).trans ?_
    unfold finalContents
    rw [tail_arg1, loop_keeps m c main_arg1 (by decide +kernel) 20000, entry_arg1]
  · refine (h c main_arg2 rfl).trans ?_
    unfold finalContents
    rw [tail_arg2, loop_keeps m c main_arg2 (by decide +kernel) 20000, entry_arg2]
  · refine (h c main_arg3 rfl).trans ?_
    unfold finalContents
    rw [tail_arg3, loop_keeps m c main_arg3 (by decide +kernel) 20000, entry_arg3]

end Cert.Proof.R

end
-- ==== Proof.Match.lean ====
/-
  The kernel's match array and the reference's match vector: after `k` positions the entry of the array at a position
  stands for what the vector holds at the position's box.
-/
module

public import proofs.«01_k».proof.Proof.Back
public import proofs.«01_k».proof.Proof.RefRun
public import proofs.«01_k».proof.Defs
public import proofs.«01_k».proof.Proof.Gen.Pre_overlaps_itself

@[expose] public section

noncomputable section

namespace Cert.Proof

open Cert.KernelIdeal Cert.KernelIdeal.Gen
open Idealize.ShloMosaic hiding ix1 ix2 ix3
open Idealize.ShloMosaic.StableHlo Idealize.ShloMosaic.ValueIdx
open Idealize.ShloMosaic.TcCoe
open Cert.Proof.K

/-- At exact arithmetic the kernel's overlap test of two boxes is the reference's. -/
theorem over_eq (thr a0 a1 a2 a3 b0 b1 b2 b3 : Ideal .f32) :
    overB thr a0 a1 a2 a3 b0 b1 b2 b3 (FloatOps.mulf (FloatOps.subf b2 b0) (FloatOps.subf b3 b1)) = R.overR thr a0 a1 a2 a3 b0 b1 b2 b3 := by
  have hmax : ∀ x y : Ideal .f32, FloatOps.maximumf x y = FloatOps.maximumf y x := fun x y => max_comm (α := EReal) x y
  have hi : interK a0 a1 a2 a3 b0 b1 b2 b3 = R.interR a0 a1 a2 a3 b0 b1 b2 b3 := by
    unfold interK R.interR
    rw [hmax _ (FloatOps.ofBits .f32 0x00000000#32), hmax _ (FloatOps.ofBits .f32 0x00000000#32)]
  unfold overB R.overR
  rw [hi]
  rfl

/-- Minus infinity exceeds no threshold. -/
theorem bot_not_gt (t : Ideal .f32) : FloatOps.cmpf .ogt (FloatOps.ofBits .f32 0xFF800000#32 : Ideal .f32) t ≠ 1#1 := by
  have hb : (FloatOps.ofBits .f32 0xFF800000#32 : Ideal .f32) = (⊥ : EReal) := by
    show Ideal.ofBits .f32 0xFF800000#32 = _
    simp [Ideal.ofBits, Ideal.ieee]
  rw [hb]
  simp [FloatOps.cmpf, Ideal.cmp]

/-! ## The precondition -/

/-- Under the precondition a box above the score threshold overlaps itself more than the overlap threshold. -/
theorem pre_self (a0 : FVec Ideal S1x20000x4 .f32) (a1 : FVec Ideal S1x1x20000 .f32) (a2 a3 : FVec Ideal S1 .f32)
    (hp : Cert.Pre_overlaps_itself.fn (F := Ideal) a0 a1 a2 a3 = fun _ => 1#1) (j : Fin 20000)
    (hv : FloatOps.cmpf .ogt (a1 (ix3 0 0 j)) (a3 (ix1 0)) = 1#1) :
    R.overR (a2 (ix1 0)) (a0 (ix3 0 j 0)) (a0 (ix3 0 j 1)) (a0 (ix3 0 j 2)) (a0 (ix3 0 j 3))
      (a0 (ix3 0 j 0)) (a0 (ix3 0 j 1)) (a0 (ix3 0 j 2)) (a0 (ix3 0 j 3)) = 1#1 := by
  have h := congrFun hp (ix1 j)
  have hb : ∀ (h) (p : Fin 20000) (q : Fin 4), shapeCast S20000x4 a0 h (ix2 p q) = a0 (ix3 0 p q) := fun h p q =>
    cast_at _ _ _ _ (by
      rw [Shape.rowMajor_val_two, Shape.rowMajor_val_three]
      show (0 * 20000 + p.val) * 4 + q.val = p.val * 4 + q.val
      omega)
  have hs : ∀ (h), shapeCast S20000 a1 h (ix1 j) = a1 (ix3 0 0 j) := fun h =>
    cast_at _ _ _ _ (by
      rw [Shape.rowMajor_val_one, Shape.rowMajor_val_three]
      show (0 * 1 + 0) * 20000 + j.val = j.val
      omega)
  simp only [Cert.Pre_overlaps_itself.fn, Cert.Pre_overlaps_itself.fn_part1, Cert.Pre_overlaps_itself.fn_part2, ori, noti, cmpf, mulf, addf, subf,
    maximumf, minimumf, Host.divf, broadcastInDim, cast_one_zero] at h
  rw [column _ 0 (by omega), column _ 1 (by omega), column _ 2 (by omega), column _ 3 (by omega), hs] at h
  simp only [hb] at h
  have hor : ∀ {a b : BitVec 1}, IntOp.ori (~~~a) b = 1#1 → a = 1#1 → b = 1#1 := by
    intro a b
    revert a b
    decide
  rw [← over_eq]
  exact hor h hv

/-! ## The kernel's match array -/

section Kernel
variable (m : (ℓ : Loc nD τ sig) → Buf (Elt Ideal) ℓ) (c : Dev nD) (σ : Equiv.Perm (Fin 20000))
  (hσ : ∀ k : Fin 20000, ordK (arg1K m c) (ix1 k) = BitVec.ofNat 32 (σ k).val)

omit σ hσ in
/-- The order lists the boxes. -/
theorem order_perm : ∃ σ : Equiv.Perm (Fin 20000), ∀ k : Fin 20000, ordK (arg1K m c) (ix1 k) = BitVec.ofNat 32 (σ k).val :=
  sort_iota_perm _ _

/-- The overlap test of the boxes `s` and `j`. -/
def overlap (s j : Fin 20000) : BitVec 1 :=
  R.overR (arg2K m c (ix1 0)) (arg0K m c (ix3 0 s 0)) (arg0K m c (ix3 0 s 1)) (arg0K m c (ix3 0 s 2)) (arg0K m c (ix3 0 s 3))
    (arg0K m c (ix3 0 j 0)) (arg0K m c (ix3 0 j 1)) (arg0K m c (ix3 0 j 2)) (arg0K m c (ix3 0 j 3))

/-- The match array after the positions below `k`. -/
def matchK (k : ℕ) : IVec S157x128 32 := scan (ovK (ins (entryV m) c)) (g₀ (entryV m) c) k

include hσ in
theorem ov_iff (k j : Fin 20000) : ovK (ins (entryV m) c) k.val (at' j.val (by omega)) ↔ overlap m c (σ k) (σ j) = 1#1 := by
  have h0 : pkAt (ins (entryV m) c).pk (4 * k.val) = arg0K m c (ix3 0 (σ k) 0) := in_pk m c k.val k.isLt (σ k) (hσ k) 0 (by omega)
  have h1 : pkAt (ins (entryV m) c).pk (4 * k.val + 1) = arg0K m c (ix3 0 (σ k) 1) := in_pk m c k.val k.isLt (σ k) (hσ k) 1 (by omega)
  have h2 : pkAt (ins (entryV m) c).pk (4 * k.val + 2) = arg0K m c (ix3 0 (σ k) 2) := in_pk m c k.val k.isLt (σ k) (hσ k) 2 (by omega)
  have h3 : pkAt (ins (entryV m) c).pk (4 * k.val + 3) = arg0K m c (ix3 0 (σ k) 3) := in_pk m c k.val k.isLt (σ k) (hσ k) 3 (by omega)
  unfold ovK overlap
  rw [h0, h1, h2, h3, in_b0 m c j.val j.isLt (σ j) (hσ j), in_b1 m c j.val j.isLt (σ j) (hσ j), in_b2 m c j.val j.isLt (σ j) (hσ j),
    in_b3 m c j.val j.isLt (σ j) (hσ j), in_ar m c j.val j.isLt (σ j) (hσ j), in_thr, over_eq]

/-- Nothing is unmatched among the padding. -/
theorem pad_matched (x : S157x128.Idx) (hx : 20000 ≤ pos x) : g₀ (entryV m) c x ≠ 4294967295#32 := by
  rw [start_out m c x hx, if_neg (bot_not_gt _)]
  decide

theorem matchK_entry (k : ℕ) (hk : k ≤ 20096) (x : S157x128.Idx) : Entry (matchK m c k x) :=
  scan_entry _ _ (start_word m c) (pad_matched m c) k hk x

include hσ in
/-- Under the precondition every unmatched position overlaps itself. -/
theorem self_overlap (hp : Pre_KernelIdeal m) (x : S157x128.Idx) (hx : g₀ (entryV m) c x = 4294967295#32) :
    ovK (ins (entryV m) c) (pos x) x := by
  have hlt : pos x < 20000 := by
    by_contra h
    exact pad_matched m c x (by omega) hx
  have hat : x = at' (pos x) (by omega) := pos_inj (by rw [pos_at'])
  have h : ovK (ins (entryV m) c) (⟨pos x, hlt⟩ : Fin 20000).val (at' (⟨pos x, hlt⟩ : Fin 20000).val (by omega)) := by
    rw [ov_iff m c σ hσ]
    refine pre_self _ _ _ _ (hp c) _ ?_
    rw [hat, start_in m c (pos x) hlt (σ ⟨pos x, hlt⟩) (hσ _)] at hx
    by_contra hn
    rw [if_neg hn] at hx
    exact absurd hx (by decide)
  rw [← hat] at h
  exact h

theorem matchK_succ (k : ℕ) (hk : k < 20096) (x : S157x128.Idx) : matchK m c (k + 1) x
    = if matchK m c k (at' k hk) = 4294967295#32 ∧ matchK m c k x = 4294967295#32 ∧ ovK (ins (entryV m) c) k x then BitVec.ofNat 32 k else matchK m c k x := by
  unfold matchK
  rw [scan]
  generalize scan (ovK (ins (entryV m) c)) (g₀ (entryV m) c) k = g
  by_cases ho : g (at' k hk) = 4294967295#32
  · have ho' : openAt g k := ⟨hk, ho⟩
    rw [if_pos ho']
    unfold visit
    exact if_congr ⟨fun h => ⟨ho, h⟩, fun h => h.2⟩ rfl rfl
  · rw [if_neg (fun h => ho h.2), if_neg (fun h => ho h.1)]

include hσ in
/-- The kernel's loop ends with every position done. -/
theorem kernel_ends (hp : Pre_KernelIdeal m) : ∃ k, Halts (ins (entryV m) c) k (r₀ (entryV m) c) (g₀ (entryV m) c)
    ∧ kRun (ins (entryV m) c) k (r₀ (entryV m) c) (g₀ (entryV m) c) = matchK m c 20000 := by
  obtain ⟨k, h, e⟩ := loop_scan (ovK (ins (entryV m) c)) (g₀ (entryV m) c) idealWords (ins (entryV m) c) chk_word
    (fun p hp h g => kStep_word _ p hp h g) (self_overlap m c σ hσ hp) 20096 0 rfl
  have hr : r₀ (entryV m) c = BitVec.ofNat 32 (firstUn (g₀ (entryV m) c)) := kFirst_eq idealWords _
  rw [show scan (ovK (ins (entryV m) c)) (g₀ (entryV m) c) 0 = g₀ (entryV m) c from rfl, ← hr] at h e
  exact ⟨k, h, e.trans (scan_done _ _ (pad_matched m c) 20096 (by omega) (by omega))⟩

end Kernel

/-! ## The reference's match vector -/

theorem start_ref (a1 : FVec Ideal S1x1x20000 .f32) (a3 : FVec Ideal S1 .f32) (j : Fin 20000) :
    R.startR a1 a3 (ix1 j) = if FloatOps.cmpf .ogt (a1 (ix3 0 0 j)) (a3 (ix1 0)) = 1#1 then 4294967295#32 else 4294967294#32 := by
  have hs : ∀ (h), shapeCast S20000 a1 h (ix1 j) = a1 (ix3 0 0 j) := fun h =>
    cast_at _ _ _ _ (by
      rw [Shape.rowMajor_val_one, Shape.rowMajor_val_three]
      show (0 * 1 + 0) * 20000 + j.val = j.val
      omega)
  unfold R.startR
  simp only [select, cmpf, broadcastInDim, cast_one_zero]
  rw [hs]
  rfl

section Both
variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD) (σ : Equiv.Perm (Fin 20000))
  (hσ : ∀ k : Fin 20000, ordK (arg1K m c) (ix1 k) = BitVec.ofNat 32 (σ k).val)
  (h0 : R.arg0R m' c = arg0K m c) (h1 : R.arg1R m' c = arg1K m c) (h2 : R.arg2R m' c = arg2K m c) (h3 : R.arg3R m' c = arg3K m c)

include hσ h0 h1 h2 h3

omit h0 h2 in
theorem match_eq_zero (j : Fin 20000) : R.matchR m' c 0 (ix1 (σ j)) = boxOf σ (matchK m c 0 (at' j.val (by omega))) := by
  refine (congrFun (R.match_zero m' c) _).trans ?_
  rw [h1, h3]
  refine (start_ref _ _ _).trans ?_
  refine Eq.trans ?_ (congrArg (boxOf σ) (start_in m c j.val j.isLt (σ j) (hσ j)).symm)
  split
  · exact (boxOf_open σ).symm
  · exact (boxOf_drop σ).symm

omit h3 in
theorem match_eq_succ (k : ℕ) (hk : k < 20000)
    (ih : ∀ j : Fin 20000, R.matchR m' c k (ix1 (σ j)) = boxOf σ (matchK m c k (at' j.val (by omega)))) (j : Fin 20000) :
    R.matchR m' c (k + 1) (ix1 (σ j)) = boxOf σ (matchK m c (k + 1) (at' j.val (by omega))) := by
  have hstep := R.match_succ m' c ⟨k, hk⟩ (σ ⟨k, hk⟩) (σ j) (by rw [h1]; exact hσ ⟨k, hk⟩)
  rw [h0, h2] at hstep
  refine hstep.trans ?_
  have ek := boxOf_eq_open σ (matchK_entry m c k (by omega) (at' k (by omega)))
  have ej := boxOf_eq_open σ (matchK_entry m c k (by omega) (at' j.val (by omega)))
  refine Eq.trans ?_ (congrArg (boxOf σ) (matchK_succ m c k (by omega) _).symm)
  rw [apply_ite (boxOf σ)]
  refine if_congr ?_ (boxOf_word σ ⟨k, hk⟩).symm (ih j)
  refine and_congr ?_ (and_congr ?_ (ov_iff m c σ hσ ⟨k, hk⟩ j).symm)
  · exact (Iff.of_eq (congrArg (· = _) (ih ⟨k, hk⟩))).trans ek
  · exact (Iff.of_eq (congrArg (· = _) (ih j))).trans ej

/-- After `k` positions the vector holds at a position's box what the array's entry there stands for. -/
theorem match_eq (k : ℕ) (hk : k ≤ 20000) : ∀ j : Fin 20000, R.matchR m' c k (ix1 (σ j)) = boxOf σ (matchK m c k (at' j.val (by omega))) := by
  induction k with
  | zero => exact match_eq_zero m m' c σ hσ h1 h3
  | succ k ih => exact match_eq_succ m m' c σ hσ h0 h1 h2 k hk (ih (by omega))

/-- The kernel's match array, taken back to the boxes, is the reference's vector. -/
theorem back_eq : backK (ordK (arg1K m c)) (sortedK (matchK m c 20000)) = R.matchR m' c 20000 := by
  funext x
  obtain ⟨i, rfl⟩ : ∃ i : Fin 20000, x = ix1 i := ⟨x 0, by
    funext a
    match a with
    | ⟨0, _⟩ => rfl⟩
  obtain ⟨j, rfl⟩ := σ.surjective i
  rw [match_eq m m' c σ hσ h0 h1 h2 h3 20000 le_rfl j,
    back_at σ _ _ hσ j (by rw [sorted_at]; exact matchK_entry m c 20000 (by omega) _), sorted_at]

end Both

end Cert.Proof

end
-- ==== Proof.lean ====
/-
  The claims: the kernel and the reference end without a fault, their arguments unchanged and every counter at zero, and
  at exact arithmetic they end with the same pairs.
-/
module

public import proofs.«01_k».proof.Defs
public import proofs.«01_k».proof.Proof.KernelEnd
public import proofs.«01_k».proof.Proof.Match
public import proofs.«01_k».proof.Proof.Gen.Pre_overlaps_itself

@[expose] public section

noncomputable section

namespace Cert.Proof

open Cert.KernelIdeal Cert.KernelIdeal.Gen
open Idealize.ShloMosaic hiding ix1 ix2 ix3
open Idealize.SL.Sem
open Idealize.ShloMosaic.ValueIdx
open Idealize.ShloMosaic.TcCoe
open Cert.Proof.K

/-- The kernel's run under the precondition. -/
theorem run_K (m : (ℓ : Loc nD τ sig) → Buf (Elt Ideal) ℓ) (ρ : Dev nD → PrngReg) (hp : Pre_KernelIdeal m) :
    θ_run (defs (F := Ideal)) (onTc (τ := τ) (main (F := Ideal))) ⟨m, fun _ => 0, ρ⟩ (fun r => (∀ c : Dev nD,
      r.2.mem ((c.tc : Thread nD τ).loc main_v82)
        = rowsK (iotaInDim S20000 32 0) (backK (ordK (arg1K m c)) (sortedK (matchK m c 20000)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have hend : ∀ c : Dev nD, ∃ k, Halts (ins (entryV m) c) k (r₀ (entryV m) c) (g₀ (entryV m) c)
      ∧ kRun (ins (entryV m) c) k (r₀ (entryV m) c) (g₀ (entryV m) c) = matchK m c 20000 := fun c => by
    obtain ⟨σ, hσ⟩ := order_perm m c
    exact kernel_ends m c σ hσ hp
  choose kk hk he using hend
  refine (θ_run defs _ _).mono (fun r h => ⟨fun c => ⟨?_, (h.1 c).2⟩, h.2⟩) (run_kernel m ρ kk hk)
  rw [(h.1 c).1, he c]

theorem claim_kernel : quiescent_KernelIdeal := fun m g hp =>
  (θ_run defs _ _).mono (fun _ h => ⟨fun c => (h.1 c).2, h.2⟩) (run_K m g hp)

theorem claim_reference : quiescent_ReferenceIdeal := fun m g _ =>
  (θ_run Cert.ReferenceIdeal.defs _ _).mono (fun _ h => ⟨fun c => (h.1 c).2, h.2⟩) (R.run_ref m g)

theorem claim_reference_pre : quiescent_ReferenceIdeal_pre_overlaps_itself := fun m g _ =>
  (θ_run Cert.ReferenceIdeal.defs _ _).mono (fun _ h => ⟨fun c => (h.1 c).2, h.2⟩) (R.run_ref m g)

theorem claim_value : algebraic_KernelIdeal_ReferenceIdeal := fun m g m' g' hp heq => by
  refine ⟨fun c => rowsK (iotaInDim S20000 32 0) (backK (ordK (arg1K m c)) (sortedK (matchK m c 20000))), ?_, ?_⟩
  · exact (θ_run defs _ _).mono (fun _ h => h.1) (run_K m g hp)
  · refine (θ_run Cert.ReferenceIdeal.defs _ _).mono (fun r h c => ⟨(h.1 c).1.trans ?_, (h.1 c).2⟩) (R.run_ref m' g')
    obtain ⟨σ, hσ⟩ := order_perm m c
    exact (congrArg (R.rowsR (iotaInDim S20000 32 0))
      (back_eq m m' c σ hσ (heq c).1 (heq c).2.1 (heq c).2.2.1 (heq c).2.2.2)).symm

theorem claim : Cert.Claim :=
  ⟨Cert.KernelIdeal.Gen.facts, Cert.ReferenceIdeal.Gen.facts, Cert.Pre_overlaps_itself.Gen.facts, claim_kernel, claim_reference, claim_reference_pre, claim_value⟩

end Cert.Proof

end
